-- ==== Defs.lean ====
def Pre_Kernel [hPre_species : Cert.Pre_species.Facts] (m : (ℓ : Loc Cert.Kernel.nD Cert.Kernel.τ Cert.Kernel.sig) → Buf (Elt Bits) ℓ) : Prop :=
  ∀ c : Dev Cert.Kernel.nD,
    (Cert.Pre_species.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_species : Cert.Pre_species.Facts] (m : (ℓ : Loc Cert.KernelIdeal.nD Cert.KernelIdeal.τ Cert.KernelIdeal.sig) → Buf (Elt Ideal) ℓ) : Prop :=
  ∀ c : Dev Cert.KernelIdeal.nD,
    (Cert.Pre_species.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_KernelIdeal_molecule [hPre_molecule : Cert.Pre_molecule.Facts] (m : (ℓ : Loc Cert.KernelIdeal.nD Cert.KernelIdeal.τ Cert.KernelIdeal.sig) → Buf (Elt Ideal) ℓ) : Prop :=
  ∀ c : Dev Cert.KernelIdeal.nD,
    (Cert.Pre_molecule.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_molecule [hPre_molecule : Cert.Pre_molecule.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_molecule.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] [hPre_species : Cert.Pre_species.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] [hPre_species : Cert.Pre_species.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_molecule [hKernelIdeal : Cert.KernelIdeal.Facts] [hPre_molecule : Cert.Pre_molecule.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_molecule m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_molecule [hReferenceIdeal : Cert.ReferenceIdeal.Facts] [hPre_molecule : Cert.Pre_molecule.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_molecule m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  IdealRules.named_const.Statement Cert.KernelIdeal.κ "spacing" .f32 0x3E555555#32 ((5 / 24 : ℝ) : EReal)
  ∧ IdealRules.named_const.Statement Cert.KernelIdeal.κ "coeff" .f32 0xC13851EC#32 ((-288 / 25 : ℝ) : EReal)

def algebraic_KernelIdeal_ReferenceIdeal_pre_molecule [hKernelIdeal : Cert.KernelIdeal.Facts] [hReferenceIdeal : Cert.ReferenceIdeal.Facts] [hPre_molecule : Cert.Pre_molecule.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_molecule m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_species : Cert.Pre_species.Facts) (hPre_molecule : Cert.Pre_molecule.Facts),
    quiescent_Kernel (hKernel := hKernel) (hPre_species := hPre_species)
    ∧ quiescent_KernelIdeal (hKernelIdeal := hKernelIdeal) (hPre_species := hPre_species)
    ∧ quiescent_KernelIdeal_pre_molecule (hKernelIdeal := hKernelIdeal) (hPre_molecule := hPre_molecule)
    ∧ quiescent_ReferenceIdeal (hReferenceIdeal := hReferenceIdeal)
    ∧ quiescent_ReferenceIdeal_pre_molecule (hReferenceIdeal := hReferenceIdeal) (hPre_molecule := hPre_molecule)
    ∧ preserves_Kernel_KernelIdeal
    ∧ algebraic_KernelIdeal_ReferenceIdeal_pre_molecule (hKernelIdeal := hKernelIdeal) (hReferenceIdeal := hReferenceIdeal) (hPre_molecule := hPre_molecule)
-- ==== Pre_molecule.lean ====
abbrev S8x512 : Shape := ⟨2, ![8, 512]⟩
abbrev S8x512x3 : Shape := ⟨3, ![8, 512, 3]⟩
abbrev S8x3x3 : Shape := ⟨3, ![8, 3, 3]⟩
abbrev S8x512x64x3 : Shape := ⟨4, ![8, 512, 64, 3]⟩
abbrev S8x512x64 : Shape := ⟨3, ![8, 512, 64]⟩
abbrev S100x128 : Shape := ⟨2, ![100, 128]⟩
abbrev S2x25x128 : Shape := ⟨3, ![2, 25, 128]⟩
abbrev S2x128 : Shape := ⟨2, ![2, 128]⟩
abbrev S2x128x128 : Shape := ⟨3, ![2, 128, 128]⟩
abbrev S_ : Shape := ⟨0, ![]⟩

class Facts : Prop where
  bcast_S_S8x512 : S_.BroadcastsInDim S8x512 (![] : Fin 0 → Fin S8x512.rank)
  reducesTo_S8x512_S_d0_1 : S8x512.ReducesTo [0, 1] S_
  h_S_ : 0 < S_.numel
  bcast_S_S8x512x64 : S_.BroadcastsInDim S8x512x64 (![] : Fin 0 → Fin S8x512x64.rank)
  reducesTo_S8x512x64_S_d0_1_2 : S8x512x64.ReducesTo [0, 1, 2] S_
  bcast_S_S8x3x3 : S_.BroadcastsInDim S8x3x3 (![] : Fin 0 → Fin S8x3x3.rank)
  reducesTo_S8x3x3_S_d0_1_2 : S8x3x3.ReducesTo [0, 1, 2] S_
  bcast_S_S2x128 : S_.BroadcastsInDim S2x128 (![] : Fin 0 → Fin S2x128.rank)
  reducesTo_S2x128_S_d0_1 : S2x128.ReducesTo [0, 1] S_

variable [Facts]

def fn_part2 {F : FTy → Type} [FloatOps F] (main_arg15 : FVec F S2x128 .f32) (main_v28 : IVec S_ 1) (main_v31 : IVec S_ 1) : IVec S_ 1 :=
  let main_v32 : IVec S_ 1 := andi main_v28 main_v31
  let main_cst_14 : FVec F S_ .f32 := constant S_ .f32 0x00000000#32
  let main_v33 : FVec F S2x128 .f32 := broadcastInDim S2x128 ![] bcast_S_S2x128 main_cst_14
  let main_v34 : IVec S2x128 1 := cmpf .oeq main_arg15 main_v33
  let main_c_15 : IVec S_ 1 := constantI S_ 1 1#1
  let main_v35 : IVec S_ 1 := (fun x v => Host.reduce IntOp.andi x v reducesTo_S2x128_S_d0_1 h_S_) main_v34 main_c_15
  let main_v36 : IVec S_ 1 := andi main_v32 main_v35
  main_v36

def fn_part1 {F : FTy → Type} [FloatOps F] (main_arg5 : FVec F S8x512x64 .f32) (main_arg8 : FVec F S2x128 .f32) (main_arg10 : FVec F S2x128 .f32) (main_arg13 : FVec F S2x128 .f32) (main_arg15 : FVec F S2x128 .f32) (main_v12 : IVec S_ 1) (main_v15 : IVec S_ 1) : IVec S_ 1 :=
  let main_v16 : IVec S_ 1 := andi main_v12 main_v15
  let main_cst_6 : FVec F S_ .f32 := constant S_ .f32 0x3F800000#32
  let main_v17 : FVec F S8x512x64 .f32 := broadcastInDim S8x512x64 ![] bcast_S_S8x512x64 main_cst_6
  let main_v18 : IVec S8x512x64 1 := cmpf .oeq main_arg5 main_v17
  let main_c_7 : IVec S_ 1 := constantI S_ 1 1#1
  let main_v19 : IVec S_ 1 := (fun x v => Host.reduce IntOp.andi x v reducesTo_S8x512x64_S_d0_1_2 h_S_) main_v18 main_c_7
  let main_v20 : IVec S_ 1 := andi main_v16 main_v19
  let main_cst_8 : FVec F S_ .f32 := constant S_ .f32 0x00000000#32
  let main_v21 : FVec F S2x128 .f32 := broadcastInDim S2x128 ![] bcast_S_S2x128 main_cst_8
  let main_v22 : IVec S2x128 1 := cmpf .oeq main_arg8 main_v21
  let main_c_9 : IVec S_ 1 := constantI S_ 1 1#1
  let main_v23 : IVec S_ 1 := (fun x v => Host.reduce IntOp.andi x v reducesTo_S2x128_S_d0_1 h_S_) main_v22 main_c_9
  let main_v24 : IVec S_ 1 := andi main_v20 main_v23
  let main_cst_10 : FVec F S_ .f32 := constant S_ .f32 0x00000000#32
  let main_v25 : FVec F S2x128 .f32 := broadcastInDim S2x128 ![] bcast_S_S2x128 main_cst_10
  let main_v26 : IVec S2x128 1 := cmpf .oeq main_arg10 main_v25
  let main_c_11 : IVec S_ 1 := constantI S_ 1 1#1
  let main_v27 : IVec S_ 1 := (fun x v => Host.reduce IntOp.andi x v reducesTo_S2x128_S_d0_1 h_S_) main_v26 main_c_11
  let main_v28 : IVec S_ 1 := andi main_v24 main_v27
  let main_cst_12 : FVec F S_ .f32 := constant S_ .f32 0x00000000#32
  let main_v29 : FVec F S2x128 .f32 := broadcastInDim S2x128 ![] bcast_S_S2x128 main_cst_12
  let main_v30 : IVec S2x128 1 := cmpf .oeq main_arg13 main_v29
  let main_c_13 : IVec S_ 1 := constantI S_ 1 1#1
  let main_v31 : IVec S_ 1 := (fun x v => Host.reduce IntOp.andi x v reducesTo_S2x128_S_d0_1 h_S_) main_v30 main_c_13
  fn_part2 (F := F) main_arg15 main_v28 main_v31

def fn {F : FTy → Type} [FloatOps F] (main_arg0 : IVec S8x512 32) (main_arg1 : FVec F S8x512x3 .f32) (main_arg2 : FVec F S8x3x3 .f32) (main_arg3 : FVec F S8x512x64x3 .f32) (main_arg4 : IVec S8x512x64 32) (main_arg5 : FVec F S8x512x64 .f32) (main_arg6 : FVec F S100x128 .f32) (main_arg7 : FVec F S2x25x128 .f32) (main_arg8 : FVec F S2x128 .f32) (main_arg9 : FVec F S2x128x128 .f32) (main_arg10 : FVec F S2x128 .f32) (main_arg11 : FVec F S2x128x128 .f32) (main_arg12 : FVec F S2x128x128 .f32) (main_arg13 : FVec F S2x128 .f32) (main_arg14 : FVec F S2x128x128 .f32) (main_arg15 : FVec F S2x128 .f32) : IVec S_ 1 :=
  let main_c : IVec S_ 32 := constantI S_ 32 0#32
  let main_v0 : IVec S8x512 32 := broadcastInDim S8x512 ![] bcast_S_S8x512 main_c
  let main_v1 : IVec S8x512 1 := cmpi .sge main_arg0 main_v0
  let main_c_0 : IVec S_ 32 := constantI S_ 32 100#32
  let main_v2 : IVec S8x512 32 := broadcastInDim S8x512 ![] bcast_S_S8x512 main_c_0
  let main_v3 : IVec S8x512 1 := cmpi .slt main_arg0 main_v2
  let main_v4 : IVec S8x512 1 := andi main_v1 main_v3
  let main_c_1 : IVec S_ 1 := constantI S_ 1 1#1
  let main_v5 : IVec S_ 1 := (fun x v => Host.reduce IntOp.andi x v reducesTo_S8x512_S_d0_1 h_S_) main_v4 main_c_1
  let main_c_2 : IVec S_ 32 := constantI S_ 32 0#32
  let main_v6 : IVec S8x512x64 32 := broadcastInDim S8x512x64 ![] bcast_S_S8x512x64 main_c_2
  let main_v7 : IVec S8x512x64 1 := cmpi .sge main_arg4 main_v6
  let main_c_3 : IVec S_ 32 := constantI S_ 32 512#32
  let main_v8 : IVec S8x512x64 32 := broadcastInDim S8x512x64 ![] bcast_S_S8x512x64 main_c_3
  let main_v9 : IVec S8x512x64 1 := cmpi .slt main_arg4 main_v8
  let main_v10 : IVec S8x512x64 1 := andi main_v7 main_v9
  let main_c_4 : IVec S_ 1 := constantI S_ 1 1#1
  let main_v11 : IVec S_ 1 := (fun x v => Host.reduce IntOp.andi x v reducesTo_S8x512x64_S_d0_1_2 h_S_) main_v10 main_c_4
  let main_v12 : IVec S_ 1 := andi main_v5 main_v11
  let main_cst : FVec F S_ .f32 := constant S_ .f32 0x00000000#32
  let main_v13 : FVec F S8x3x3 .f32 := broadcastInDim S8x3x3 ![] bcast_S_S8x3x3 main_cst
  let main_v14 : IVec S8x3x3 1 := cmpf .oeq main_arg2 main_v13
  let main_c_5 : IVec S_ 1 := constantI S_ 1 1#1
  let main_v15 : IVec S_ 1 := (fun x v => Host.reduce IntOp.andi x v reducesTo_S8x3x3_S_d0_1_2 h_S_) main_v14 main_c_5
  fn_part1 (F := F) main_arg5 main_arg8 main_arg10 main_arg13 main_arg15 main_v12 main_v15
-- ==== Pre_species.lean ====
abbrev S8x512 : Shape := ⟨2, ![8, 512]⟩
abbrev S8x512x3 : Shape := ⟨3, ![8, 512, 3]⟩
abbrev S8x3x3 : Shape := ⟨3, ![8, 3, 3]⟩
abbrev S8x512x64x3 : Shape := ⟨4, ![8, 512, 64, 3]⟩
abbrev S8x512x64 : Shape := ⟨3, ![8, 512, 64]⟩
abbrev S100x128 : Shape := ⟨2, ![100, 128]⟩
abbrev S2x25x128 : Shape := ⟨3, ![2, 25, 128]⟩
abbrev S2x128 : Shape := ⟨2, ![2, 128]⟩
abbrev S2x128x128 : Shape := ⟨3, ![2, 128, 128]⟩
abbrev S_ : Shape := ⟨0, ![]⟩

class Facts : Prop where
  bcast_S_S8x512 : S_.BroadcastsInDim S8x512 (![] : Fin 0 → Fin S8x512.rank)
  reducesTo_S8x512_S_d0_1 : S8x512.ReducesTo [0, 1] S_
  h_S_ : 0 < S_.numel

variable [Facts]

def fn {F : FTy → Type} [FloatOps F] (main_arg0 : IVec S8x512 32) (main_arg1 : FVec F S8x512x3 .f32) (main_arg2 : FVec F S8x3x3 .f32) (main_arg3 : FVec F S8x512x64x3 .f32) (main_arg4 : IVec S8x512x64 32) (main_arg5 : FVec F S8x512x64 .f32) (main_arg6 : FVec F S100x128 .f32) (main_arg7 : FVec F S2x25x128 .f32) (main_arg8 : FVec F S2x128 .f32) (main_arg9 : FVec F S2x128x128 .f32) (main_arg10 : FVec F S2x128 .f32) (main_arg11 : FVec F S2x128x128 .f32) (main_arg12 : FVec F S2x128x128 .f32) (main_arg13 : FVec F S2x128 .f32) (main_arg14 : FVec F S2x128x128 .f32) (main_arg15 : FVec F S2x128 .f32) : IVec S_ 1 :=
  let main_c : IVec S_ 32 := constantI S_ 32 0#32
  let main_v0 : IVec S8x512 32 := broadcastInDim S8x512 ![] bcast_S_S8x512 main_c
  let main_v1 : IVec S8x512 1 := cmpi .sge main_arg0 main_v0
  let main_c_0 : IVec S_ 32 := constantI S_ 32 100#32
  let main_v2 : IVec S8x512 32 := broadcastInDim S8x512 ![] bcast_S_S8x512 main_c_0
  let main_v3 : IVec S8x512 1 := cmpi .slt main_arg0 main_v2
  let main_v4 : IVec S8x512 1 := andi main_v1 main_v3
  let main_c_1 : IVec S_ 1 := constantI S_ 1 1#1
  let main_v5 : IVec S_ 1 := (fun x v => Host.reduce IntOp.andi x v reducesTo_S8x512_S_d0_1 h_S_) main_v4 main_c_1
  main_v5
-- ==== Kernel.lean ====
abbrev S8x512 : Shape := ⟨2, ![8, 512]⟩
abbrev S8x512x3 : Shape := ⟨3, ![8, 512, 3]⟩
abbrev S8x3x3 : Shape := ⟨3, ![8, 3, 3]⟩
abbrev S8x512x64x3 : Shape := ⟨4, ![8, 512, 64, 3]⟩
abbrev S8x512x64 : Shape := ⟨3, ![8, 512, 64]⟩
abbrev S100x128 : Shape := ⟨2, ![100, 128]⟩
abbrev S2x25x128 : Shape := ⟨3, ![2, 25, 128]⟩
abbrev S2x128 : Shape := ⟨2, ![2, 128]⟩
abbrev S2x128x128 : Shape := ⟨3, ![2, 128, 128]⟩
abbrev S4096 : Shape := ⟨1, ![4096]⟩
abbrev S4096x128 : Shape := ⟨2, ![4096, 128]⟩
abbrev S128 : Shape := ⟨1, ![128]⟩
abbrev S128x128 : Shape := ⟨2, ![128, 128]⟩
abbrev S_ : Shape := ⟨0, ![]⟩
abbrev S8x512x128 : Shape := ⟨3, ![8, 512, 128]⟩
abbrev S1x128x128 : Shape := ⟨3, ![1, 128, 128]⟩
abbrev S512x128 : Shape := ⟨2, ![512, 128]⟩
abbrev S8x512x134 : Shape := ⟨3, ![8, 512, 134]⟩
abbrev S1x25x128 : Shape := ⟨3, ![1, 25, 128]⟩
abbrev S25x128 : Shape := ⟨2, ![25, 128]⟩
abbrev S1x512x3 : Shape := ⟨3, ![1, 512, 3]⟩
abbrev S1x16x64 : Shape := ⟨3, ![1, 16, 64]⟩
abbrev S1x16x128 : Shape := ⟨3, ![1, 16, 128]⟩
abbrev S1x512x134 : Shape := ⟨3, ![1, 512, 134]⟩
abbrev S16x64 : Shape := ⟨2, ![16, 64]⟩
abbrev S16x64x1 : Shape := ⟨3, ![16, 64, 1]⟩
abbrev S16x64x512 : Shape := ⟨3, ![16, 64, 512]⟩
abbrev S1024x512 : Shape := ⟨2, ![1024, 512]⟩
abbrev S512x134 : Shape := ⟨2, ![512, 134]⟩
abbrev S1024x134 : Shape := ⟨2, ![1024, 134]⟩
abbrev S1024x128 : Shape := ⟨2, ![1024, 128]⟩
abbrev S1024x3 : Shape := ⟨2, ![1024, 3]⟩
abbrev S1x16x3 : Shape := ⟨3, ![1, 16, 3]⟩
abbrev S16x3 : Shape := ⟨2, ![16, 3]⟩
abbrev S16x1x3 : Shape := ⟨3, ![16, 1, 3]⟩
abbrev S16x64x3 : Shape := ⟨3, ![16, 64, 3]⟩
abbrev S1024 : Shape := ⟨1, ![1024]⟩
abbrev S1024x1 : Shape := ⟨2, ![1024, 1]⟩
abbrev S1024x25 : Shape := ⟨2, ![1024, 25]⟩
abbrev S16x64x128 : Shape := ⟨3, ![16, 64, 128]⟩
abbrev S16x128 : Shape := ⟨2, ![16, 128]⟩

abbrev nBuf : Table → Nat
  | .hbm => 58
  | .local .tc .vmem => 37
  | .local .scVector .vmem => 2
  | _ => 0

abbrev bufTy : (tb : Table) → Fin (nBuf tb) → BufTy
  | .hbm, ⟨0, _⟩ => ⟨S8x512, .i32⟩
  | .hbm, ⟨1, _⟩ => ⟨S8x512x3, .f32⟩
  | .hbm, ⟨2, _⟩ => ⟨S8x3x3, .f32⟩
  | .hbm, ⟨3, _⟩ => ⟨S8x512x64x3, .f32⟩
  | .hbm, ⟨4, _⟩ => ⟨S8x512x64, .i32⟩
  | .hbm, ⟨5, _⟩ => ⟨S8x512x64, .f32⟩
  | .hbm, ⟨6, _⟩ => ⟨S100x128, .f32⟩
  | .hbm, ⟨7, _⟩ => ⟨S2x25x128, .f32⟩
  | .hbm, ⟨8, _⟩ => ⟨S2x128, .f32⟩
  | .hbm, ⟨9, _⟩ => ⟨S2x128x128, .f32⟩
  | .hbm, ⟨10, _⟩ => ⟨S2x128, .f32⟩
  | .hbm, ⟨11, _⟩ => ⟨S2x128x128, .f32⟩
  | .hbm, ⟨12, _⟩ => ⟨S2x128x128, .f32⟩
  | .hbm, ⟨13, _⟩ => ⟨S2x128, .f32⟩
  | .hbm, ⟨14, _⟩ => ⟨S2x128x128, .f32⟩
  | .hbm, ⟨15, _⟩ => ⟨S2x128, .f32⟩
  | .hbm, ⟨16, _⟩ => ⟨S4096, .i32⟩
  | .hbm, ⟨17, _⟩ => ⟨S4096x128, .f32⟩
  | .hbm, ⟨18, _⟩ => ⟨S8x512x128, .f32⟩
  | .hbm, ⟨19, _⟩ => ⟨S1x128x128, .f32⟩
  | .hbm, ⟨20, _⟩ => ⟨S128x128, .f32⟩
  | .hbm, ⟨21, _⟩ => ⟨S4096x128, .f32⟩
  | .hbm, ⟨22, _⟩ => ⟨S8x512x128, .f32⟩
  | .hbm, ⟨23, _⟩ => ⟨S8x512x3, .bf16⟩
  | .hbm, ⟨24, _⟩ => ⟨S8x512x3, .f32⟩
  | .hbm, ⟨25, _⟩ => ⟨S8x512x3, .f32⟩
  | .hbm, ⟨26, _⟩ => ⟨S8x512x3, .bf16⟩
  | .hbm, ⟨27, _⟩ => ⟨S1x128x128, .f32⟩
  | .hbm, ⟨28, _⟩ => ⟨S128x128, .f32⟩
  | .hbm, ⟨29, _⟩ => ⟨S8x512x128, .bf16⟩
  | .hbm, ⟨30, _⟩ => ⟨S8x512x134, .bf16⟩
  | .hbm, ⟨31, _⟩ => ⟨S1x25x128, .f32⟩
  | .hbm, ⟨32, _⟩ => ⟨S25x128, .f32⟩
  | .hbm, ⟨33, _⟩ => ⟨S25x128, .bf16⟩
  | .hbm, ⟨34, _⟩ => ⟨S1x128x128, .f32⟩
  | .hbm, ⟨35, _⟩ => ⟨S128x128, .f32⟩
  | .hbm, ⟨36, _⟩ => ⟨S128x128, .bf16⟩
  | .hbm, ⟨37, _⟩ => ⟨S1x128x128, .f32⟩
  | .hbm, ⟨38, _⟩ => ⟨S128x128, .f32⟩
  | .hbm, ⟨39, _⟩ => ⟨S1x128x128, .f32⟩
  | .hbm, ⟨40, _⟩ => ⟨S128x128, .f32⟩
  | .hbm, ⟨41, _⟩ => ⟨S8x512x128, .f32⟩
  | .hbm, ⟨42, _⟩ => ⟨S8x512x128, .f32⟩
  | .hbm, ⟨43, _⟩ => ⟨S1x128x128, .f32⟩
  | .hbm, ⟨44, _⟩ => ⟨S128x128, .f32⟩
  | .hbm, ⟨45, _⟩ => ⟨S8x512x128, .bf16⟩
  | .hbm, ⟨46, _⟩ => ⟨S8x512x134, .bf16⟩
  | .hbm, ⟨47, _⟩ => ⟨S1x25x128, .f32⟩
  | .hbm, ⟨48, _⟩ => ⟨S25x128, .f32⟩
  | .hbm, ⟨49, _⟩ => ⟨S25x128, .bf16⟩
  | .hbm, ⟨50, _⟩ => ⟨S1x128x128, .f32⟩
  | .hbm, ⟨51, _⟩ => ⟨S128x128, .f32⟩
  | .hbm, ⟨52, _⟩ => ⟨S128x128, .bf16⟩
  | .hbm, ⟨53, _⟩ => ⟨S1x128x128, .f32⟩
  | .hbm, ⟨54, _⟩ => ⟨S128x128, .f32⟩
  | .hbm, ⟨55, _⟩ => ⟨S1x128x128, .f32⟩
  | .hbm, ⟨56, _⟩ => ⟨S128x128, .f32⟩
  | .hbm, ⟨57, _⟩ => ⟨S8x512x128, .f32⟩
  | .local .tc .vmem, ⟨0, _⟩ => ⟨S512x128, .f32⟩
  | .local .tc .vmem, ⟨1, _⟩ => ⟨S512x128, .f32⟩
  | .local .tc .vmem, ⟨2, _⟩ => ⟨S128x128, .f32⟩
  | .local .tc .vmem, ⟨3, _⟩ => ⟨S512x128, .f32⟩
  | .local .tc .vmem, ⟨4, _⟩ => ⟨S512x128, .f32⟩
  | .local .tc .vmem, ⟨5, _⟩ => ⟨S1x512x3, .f32⟩
  | .local .tc .vmem, ⟨6, _⟩ => ⟨S1x512x3, .f32⟩
  | .local .tc .vmem, ⟨7, _⟩ => ⟨S1x16x64, .i32⟩
  | .local .tc .vmem, ⟨8, _⟩ => ⟨S1x16x64, .i32⟩
  | .local .tc .vmem, ⟨9, _⟩ => ⟨S1x16x128, .f32⟩
  | .local .tc .vmem, ⟨10, _⟩ => ⟨S1x16x128, .f32⟩
  | .local .tc .vmem, ⟨11, _⟩ => ⟨S1x512x134, .bf16⟩
  | .local .tc .vmem, ⟨12, _⟩ => ⟨S1x512x134, .bf16⟩
  | .local .tc .vmem, ⟨13, _⟩ => ⟨S25x128, .bf16⟩
  | .local .tc .vmem, ⟨14, _⟩ => ⟨S128x128, .bf16⟩
  | .local .tc .vmem, ⟨15, _⟩ => ⟨S128x128, .f32⟩
  | .local .tc .vmem, ⟨16, _⟩ => ⟨S128x128, .f32⟩
  | .local .tc .vmem, ⟨17, _⟩ => ⟨S128x128, .f32⟩
  | .local .tc .vmem, ⟨18, _⟩ => ⟨S1x16x128, .f32⟩
  | .local .tc .vmem, ⟨19, _⟩ => ⟨S1x16x128, .f32⟩
  | .local .tc .vmem, ⟨20, _⟩ => ⟨S1x16x128, .f32⟩
  | .local .tc .vmem, ⟨21, _⟩ => ⟨S1x16x128, .f32⟩
  | .local .tc .vmem, ⟨22, _⟩ => ⟨S1x512x3, .f32⟩
  | .local .tc .vmem, ⟨23, _⟩ => ⟨S1x512x3, .f32⟩
  | .local .tc .vmem, ⟨24, _⟩ => ⟨S1x16x64, .i32⟩
  | .local .tc .vmem, ⟨25, _⟩ => ⟨S1x16x64, .i32⟩
  | .local .tc .vmem, ⟨26, _⟩ => ⟨S1x16x128, .f32⟩
  | .local .tc .vmem, ⟨27, _⟩ => ⟨S1x16x128, .f32⟩
  | .local .tc .vmem, ⟨28, _⟩ => ⟨S1x512x134, .bf16⟩
  | .local .tc .vmem, ⟨29, _⟩ => ⟨S1x512x134, .bf16⟩
  | .local .tc .vmem, ⟨30, _⟩ => ⟨S25x128, .bf16⟩
  | .local .tc .vmem, ⟨31, _⟩ => ⟨S128x128, .bf16⟩
  | .local .tc .vmem, ⟨32, _⟩ => ⟨S128x128, .f32⟩
  | .local .tc .vmem, ⟨33, _⟩ => ⟨S128x128, .f32⟩
  | .local .tc .vmem, ⟨34, _⟩ => ⟨S128x128, .f32⟩
  | .local .tc .vmem, ⟨35, _⟩ => ⟨S1x16x128, .f32⟩
  | .local .tc .vmem, ⟨36, _⟩ => ⟨S1x16x128, .f32⟩
  | .local .scVector .vmem, ⟨0, _⟩ => ⟨S128, .i32⟩
  | .local .scVector .vmem, ⟨1, _⟩ => ⟨S128x128, .f32⟩
  | _, _ => ⟨S8x512, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 40 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTables nBuf rfl bufTy 4 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25_0 : Ref sig .tc := ⟨.hbm, 41, rfl⟩
abbrev main_v25_1 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v0_scv : Ref sig .scVector := ⟨.hbm, 16, rfl⟩
abbrev main_arg6_scv : Ref sig .scVector := ⟨.hbm, 6, rfl⟩
abbrev main_v1_scv : Ref sig .scVector := ⟨.hbm, 17, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc2_stg0_0 : Ref sig .tc := ⟨.vmem, 5, rfl⟩
abbrev cc2_stg0_1 : Ref sig .tc := ⟨.vmem, 6, rfl⟩
abbrev cc2_stg1_0 : Ref sig .tc := ⟨.vmem, 7, rfl⟩
abbrev cc2_stg1_1 : Ref sig .tc := ⟨.vmem, 8, rfl⟩
abbrev cc2_stg2_0 : Ref sig .tc := ⟨.vmem, 9, rfl⟩
abbrev cc2_stg2_1 : Ref sig .tc := ⟨.vmem, 10, rfl⟩
abbrev cc2_stg3_0 : Ref sig .tc := ⟨.vmem, 11, rfl⟩
abbrev cc2_stg3_1 : Ref sig .tc := ⟨.vmem, 12, rfl⟩
abbrev cc2_stg4_0 : Ref sig .tc := ⟨.vmem, 13, rfl⟩
abbrev cc2_stg5_0 : Ref sig .tc := ⟨.vmem, 14, rfl⟩
abbrev cc2_stg6_0 : Ref sig .tc := ⟨.vmem, 15, rfl⟩
abbrev cc2_stg7_0 : Ref sig .tc := ⟨.vmem, 16, rfl⟩
abbrev cc2_stg8_0 : Ref sig .tc := ⟨.vmem, 17, rfl⟩
abbrev cc2_stg9_0 : Ref sig .tc := ⟨.vmem, 18, rfl⟩
abbrev cc2_stg9_1 : Ref sig .tc := ⟨.vmem, 19, rfl⟩
abbrev cc2_stg10_0 : Ref sig .tc := ⟨.vmem, 20, rfl⟩
abbrev cc2_stg10_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_stg8_0 : Ref sig .tc := ⟨.vmem, 34, rfl⟩
abbrev cc3_stg9_0 : Ref sig .tc := ⟨.vmem, 35, rfl⟩
abbrev cc3_stg9_1 : Ref sig .tc := ⟨.vmem, 36, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15
abbrev cc2_sem4_0 : DmaSem sig := 16
abbrev cc2_sem5_0 : DmaSem sig := 17
abbrev cc2_sem6_0 : DmaSem sig := 18
abbrev cc2_sem7_0 : DmaSem sig := 19
abbrev cc2_sem8_0 : DmaSem sig := 20
abbrev cc2_sem9_0 : DmaSem sig := 21
abbrev cc2_sem9_1 : DmaSem sig := 22
abbrev cc2_sem10_0 : DmaSem sig := 23
abbrev cc2_sem10_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem3_1 : DmaSem sig := 32
abbrev cc3_sem4_0 : DmaSem sig := 33
abbrev cc3_sem5_0 : DmaSem sig := 34
abbrev cc3_sem6_0 : DmaSem sig := 35
abbrev cc3_sem7_0 : DmaSem sig := 36
abbrev cc3_sem8_0 : DmaSem sig := 37
abbrev cc3_sem9_0 : DmaSem sig := 38
abbrev cc3_sem9_1 : DmaSem sig := 39
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_3_r1 : BitVec 32 := 0#32
  ![v2.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 32], ![false, false]⟩

def k2_off1 (i : grid2.Coords) : Fin 3 → Nat :=
  let c0_5 : Index := 0#32
  let arg1 : BitVec 32 := BitVec.ofNat 32 (i 1).val
  let c16_i32 : BitVec 32 := 16#32
  let v17 : BitVec 32 := Scalar.muli arg1 c16_i32
  let v18 : Index := Scalar.indexCast v17
  let c0_6 : Index := 0#32
  ![0, v18.toNat, 0]
def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_10 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x3 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x16x64 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x16x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x512x134 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 1 → Memref sig .tc .vmem S25x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S128x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 2 → Memref sig .tc .vmem S1x16x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev stage2_10 : Fin 2 → Memref sig .tc .vmem S1x16x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, true]

abbrev grid3 : Pipeline.Grid := ⟨2, ![8, 32], ![false, false]⟩

def k3_off1 (i : grid3.Coords) : Fin 3 → Nat :=
  let c0_5 : Index := 0#32
  let arg1 : BitVec 32 := BitVec.ofNat 32 (i 1).val
  let c16_i32 : BitVec 32 := 16#32
  let v17 : BitVec 32 := Scalar.muli arg1 c16_i32
  let v18 : Index := Scalar.indexCast v17
  let c0_6 : Index := 0#32
  ![0, v18.toNat, 0]
def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x512x3 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1x16x64 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x16x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x512x134 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 1 → Memref sig .tc .vmem S25x128 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S128x128 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 1 → Memref sig .tc .vmem S128x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 1 → Memref sig .tc .vmem S128x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false, false]

abbrev stage3_9 : Fin 2 → Memref sig .tc .vmem S1x16x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "coeff" => some ((-288 / 25 : ℝ) : EReal)
  | "spacing" => some ((5 / 24 : ℝ) : EReal)
  | _ => none
-- ==== ReferenceIdeal.lean ====
abbrev S8x512 : Shape := ⟨2, ![8, 512]⟩
abbrev S8x512x3 : Shape := ⟨3, ![8, 512, 3]⟩
abbrev S8x3x3 : Shape := ⟨3, ![8, 3, 3]⟩
abbrev S8x512x64x3 : Shape := ⟨4, ![8, 512, 64, 3]⟩
abbrev S8x512x64 : Shape := ⟨3, ![8, 512, 64]⟩
abbrev S100x128 : Shape := ⟨2, ![100, 128]⟩
abbrev S2x25x128 : Shape := ⟨3, ![2, 25, 128]⟩
abbrev S2x128 : Shape := ⟨2, ![2, 128]⟩
abbrev S2x128x128 : Shape := ⟨3, ![2, 128, 128]⟩
abbrev S_ : Shape := ⟨0, ![]⟩
abbrev S8x512x1 : Shape := ⟨3, ![8, 512, 1]⟩
abbrev S8x512x128 : Shape := ⟨3, ![8, 512, 128]⟩
abbrev S8x512x64x1 : Shape := ⟨4, ![8, 512, 64, 1]⟩
abbrev S8x512x1x3 : Shape := ⟨4, ![8, 512, 1, 3]⟩
abbrev S24 : Shape := ⟨1, ![24]⟩
abbrev S1 : Shape := ⟨1, ![1]⟩
abbrev S25 : Shape := ⟨1, ![25]⟩
abbrev S1x1x1x25 : Shape := ⟨4, ![1, 1, 1, 25]⟩
abbrev S8x512x64x25 : Shape := ⟨4, ![8, 512, 64, 25]⟩
abbrev S1x25x128 : Shape := ⟨3, ![1, 25, 128]⟩
abbrev S25x128 : Shape := ⟨2, ![25, 128]⟩
abbrev S8x512x64x128 : Shape := ⟨4, ![8, 512, 64, 128]⟩
abbrev S1x128 : Shape := ⟨2, ![1, 128]⟩
abbrev S128 : Shape := ⟨1, ![128]⟩
abbrev S1x1x1x128 : Shape := ⟨4, ![1, 1, 1, 128]⟩
abbrev S1x128x128 : Shape := ⟨3, ![1, 128, 128]⟩
abbrev S128x128 : Shape := ⟨2, ![128, 128]⟩
abbrev S1x1x128 : Shape := ⟨3, ![1, 1, 128]⟩

abbrev nBuf : Space → Nat
  | .hbm => 264
  | .vmem => 0
  | .smem => 0
  | _ => 0

abbrev hbmTy0_0 (i : Nat) : BufTy := match i % 128 with
  | 0 => ⟨S8x512, .i32⟩
  | 1 => ⟨S8x512x3, .f32⟩
  | 2 => ⟨S8x3x3, .f32⟩
  | 3 => ⟨S8x512x64x3, .f32⟩
  | 4 => ⟨S8x512x64, .i32⟩
  | 5 => ⟨S8x512x64, .f32⟩
  | 6 => ⟨S100x128, .f32⟩
  | 7 => ⟨S2x25x128, .f32⟩
  | 8 => ⟨S2x128, .f32⟩
  | 9 => ⟨S2x128x128, .f32⟩
  | 10 => ⟨S2x128, .f32⟩
  | 11 => ⟨S2x128x128, .f32⟩
  | 12 => ⟨S2x128x128, .f32⟩
  | 13 => ⟨S2x128, .f32⟩
  | 14 => ⟨S2x128x128, .f32⟩
  | 15 => ⟨S2x128, .f32⟩
  | 16 => ⟨S_, .i32⟩
  | 17 => ⟨S8x512, .i32⟩
  | 18 => ⟨S8x512, .i1⟩
  | 19 => ⟨S_, .i32⟩
  | 20 => ⟨S8x512, .i32⟩
  | 21 => ⟨S8x512, .i32⟩
  | 22 => ⟨S8x512, .i32⟩
  | 23 => ⟨S8x512x1, .i32⟩
  | 24 => ⟨S8x512x128, .f32⟩
  | 25 => ⟨S_, .i32⟩
  | 26 => ⟨S8x512x64, .i32⟩
  | 27 => ⟨S8x512x64, .i1⟩
  | 28 => ⟨S_, .i32⟩
  | 29 => ⟨S8x512x64, .i32⟩
  | 30 => ⟨S8x512x64, .i32⟩
  | 31 => ⟨S8x512x64, .i32⟩
  | 32 => ⟨S8x512x64x1, .i32⟩
  | 33 => ⟨S8x512x64x3, .f32⟩
  | 34 => ⟨S8x512x64x3, .f32⟩
  | 35 => ⟨S8x512x64x3, .f32⟩
  | 36 => ⟨S8x512x1x3, .f32⟩
  | 37 => ⟨S8x512x64x3, .f32⟩
  | 38 => ⟨S8x512x64x3, .f32⟩
  | 39 => ⟨S8x512x64x3, .f32⟩
  | 40 => ⟨S_, .f32⟩
  | 41 => ⟨S8x512x64, .f32⟩
  | 42 => ⟨S_, .f32⟩
  | 43 => ⟨S8x512x64, .f32⟩
  | 44 => ⟨S8x512x64, .f32⟩
  | 45 => ⟨S8x512x64, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S24, .f32⟩
  | 54 => ⟨S_, .f32⟩
  | 55 => ⟨S24, .f32⟩
  | 56 => ⟨S24, .f32⟩
  | 57 => ⟨S1, .f32⟩
  | 58 => ⟨S_, .f32⟩
  | 59 => ⟨S24, .f32⟩
  | 60 => ⟨S24, .f32⟩
  | 61 => ⟨S24, .f32⟩
  | 62 => ⟨S24, .f32⟩
  | 63 => ⟨S1, .f32⟩
  | 64 => ⟨S24, .f32⟩
  | 65 => ⟨S24, .f32⟩
  | 66 => ⟨S24, .f32⟩
  | 67 => ⟨S1, .f32⟩
  | 68 => ⟨S25, .f32⟩
  | 69 => ⟨S1, .f32⟩
  | 70 => ⟨S_, .f32⟩
  | 71 => ⟨S1, .f32⟩
  | 72 => ⟨S_, .f32⟩
  | 73 => ⟨S_, .f32⟩
  | 74 => ⟨S_, .f32⟩
  | 75 => ⟨S_, .f32⟩
  | 76 => ⟨S_, .f32⟩
  | 77 => ⟨S8x512x64x1, .f32⟩
  | 78 => ⟨S1x1x1x25, .f32⟩
  | 79 => ⟨S8x512x64x25, .f32⟩
  | 80 => ⟨S8x512x64x25, .f32⟩
  | 81 => ⟨S8x512x64x25, .f32⟩
  | 82 => ⟨S8x512x64x25, .f32⟩
  | 83 => ⟨S8x512x64x25, .f32⟩
  | 84 => ⟨S8x512x64x25, .f32⟩
  | 85 => ⟨S8x512x64x25, .f32⟩
  | 86 => ⟨S1x25x128, .f32⟩
  | 87 => ⟨S25x128, .f32⟩
  | 88 => ⟨S8x512x64x128, .f32⟩
  | 89 => ⟨S1x128, .f32⟩
  | 90 => ⟨S128, .f32⟩
  | 91 => ⟨S1x1x1x128, .f32⟩
  | 92 => ⟨S8x512x64x128, .f32⟩
  | 93 => ⟨S8x512x64x128, .f32⟩
  | 94 => ⟨S_, .f32⟩
  | 95 => ⟨S8x512x64x128, .f32⟩
  | 96 => ⟨S8x512x64x128, .f32⟩
  | 97 => ⟨S8x512x64x128, .f32⟩
  | 98 => ⟨S8x512x64x128, .f32⟩
  | 99 => ⟨S8x512x64x128, .i1⟩
  | 100 => ⟨S8x512x64x128, .f32⟩
  | 101 => ⟨S8x512x64x128, .f32⟩
  | 102 => ⟨S8x512x64x128, .f32⟩
  | 103 => ⟨S8x512x64x128, .f32⟩
  | 104 => ⟨S8x512x64x128, .f32⟩
  | 105 => ⟨S8x512x64x128, .f32⟩
  | 106 => ⟨S8x512x64x128, .f32⟩
  | 107 => ⟨S8x512x64x128, .f32⟩
  | 108 => ⟨S_, .f32⟩
  | 109 => ⟨S_, .f32⟩
  | 110 => ⟨S_, .f32⟩
  | 111 => ⟨S8x512x64x128, .f32⟩
  | 112 => ⟨S8x512x64x128, .f32⟩
  | 113 => ⟨S1x128x128, .f32⟩
  | 114 => ⟨S128x128, .f32⟩
  | 115 => ⟨S8x512x64x128, .f32⟩
  | 116 => ⟨S1x128, .f32⟩
  | 117 => ⟨S128, .f32⟩
  | 118 => ⟨S1x1x1x128, .f32⟩
  | 119 => ⟨S8x512x64x128, .f32⟩
  | 120 => ⟨S8x512x64x128, .f32⟩
  | 121 => ⟨S1x128x128, .f32⟩
  | 122 => ⟨S128x128, .f32⟩
  | 123 => ⟨S8x512x128, .f32⟩
  | 124 => ⟨S_, .i32⟩
  | 125 => ⟨S8x512x64, .i32⟩
  | 126 => ⟨S8x512x64, .i1⟩
  | 127 => ⟨S_, .i32⟩
  | _ => ⟨S8x512, .i32⟩

abbrev hbmTy0_1 (i : Nat) : BufTy := match i % 128 with
  | 0 => ⟨S8x512x64, .i32⟩
  | 1 => ⟨S8x512x64, .i32⟩
  | 2 => ⟨S8x512x64, .i32⟩
  | 3 => ⟨S8x512x64x1, .i32⟩
  | 4 => ⟨S8x512x64x128, .f32⟩
  | 5 => ⟨S8x512x64x128, .f32⟩
  | 6 => ⟨S8x512x64x1, .f32⟩
  | 7 => ⟨S8x512x64x128, .f32⟩
  | 8 => ⟨S8x512x64x128, .f32⟩
  | 9 => ⟨S_, .f32⟩
  | 10 => ⟨S8x512x128, .f32⟩
  | 11 => ⟨S1x128x128, .f32⟩
  | 12 => ⟨S128x128, .f32⟩
  | 13 => ⟨S8x512x128, .f32⟩
  | 14 => ⟨S1x128, .f32⟩
  | 15 => ⟨S128, .f32⟩
  | 16 => ⟨S1x1x128, .f32⟩
  | 17 => ⟨S8x512x128, .f32⟩
  | 18 => ⟨S8x512x128, .f32⟩
  | 19 => ⟨S_, .f32⟩
  | 20 => ⟨S8x512x128, .f32⟩
  | 21 => ⟨S8x512x128, .f32⟩
  | 22 => ⟨S8x512x128, .f32⟩
  | 23 => ⟨S8x512x128, .f32⟩
  | 24 => ⟨S8x512x128, .i1⟩
  | 25 => ⟨S8x512x128, .f32⟩
  | 26 => ⟨S8x512x128, .f32⟩
  | 27 => ⟨S8x512x128, .f32⟩
  | 28 => ⟨S8x512x128, .f32⟩
  | 29 => ⟨S8x512x128, .f32⟩
  | 30 => ⟨S8x512x128, .f32⟩
  | 31 => ⟨S8x512x128, .f32⟩
  | 32 => ⟨S8x512x128, .f32⟩
  | 33 => ⟨S_, .f32⟩
  | 34 => ⟨S_, .f32⟩
  | 35 => ⟨S_, .f32⟩
  | 36 => ⟨S8x512x128, .f32⟩
  | 37 => ⟨S8x512x128, .f32⟩
  | 38 => ⟨S1x128x128, .f32⟩
  | 39 => ⟨S128x128, .f32⟩
  | 40 => ⟨S8x512x128, .f32⟩
  | 41 => ⟨S1x128, .f32⟩
  | 42 => ⟨S128, .f32⟩
  | 43 => ⟨S1x1x128, .f32⟩
  | 44 => ⟨S8x512x128, .f32⟩
  | 45 => ⟨S8x512x128, .f32⟩
  | 46 => ⟨S8x512x128, .f32⟩
  | 47 => ⟨S1x25x128, .f32⟩
  | 48 => ⟨S25x128, .f32⟩
  | 49 => ⟨S8x512x64x128, .f32⟩
  | 50 => ⟨S1x128, .f32⟩
  | 51 => ⟨S128, .f32⟩
  | 52 => ⟨S1x1x1x128, .f32⟩
  | 53 => ⟨S8x512x64x128, .f32⟩
  | 54 => ⟨S8x512x64x128, .f32⟩
  | 55 => ⟨S_, .f32⟩
  | 56 => ⟨S8x512x64x128, .f32⟩
  | 57 => ⟨S8x512x64x128, .f32⟩
  | 58 => ⟨S8x512x64x128, .f32⟩
  | 59 => ⟨S8x512x64x128, .f32⟩
  | 60 => ⟨S8x512x64x128, .i1⟩
  | 61 => ⟨S8x512x64x128, .f32⟩
  | 62 => ⟨S8x512x64x128, .f32⟩
  | 63 => ⟨S8x512x64x128, .f32⟩
  | 64 => ⟨S8x512x64x128, .f32⟩
  | 65 => ⟨S8x512x64x128, .f32⟩
  | 66 => ⟨S8x512x64x128, .f32⟩
  | 67 => ⟨S8x512x64x128, .f32⟩
  | 68 => ⟨S8x512x64x128, .f32⟩
  | 69 => ⟨S_, .f32⟩
  | 70 => ⟨S_, .f32⟩
  | 71 => ⟨S_, .f32⟩
  | 72 => ⟨S8x512x64x128, .f32⟩
  | 73 => ⟨S8x512x64x128, .f32⟩
  | 74 => ⟨S1x128x128, .f32⟩
  | 75 => ⟨S128x128, .f32⟩
  | 76 => ⟨S8x512x64x128, .f32⟩
  | 77 => ⟨S1x128, .f32⟩
  | 78 => ⟨S128, .f32⟩
  | 79 => ⟨S1x1x1x128, .f32⟩
  | 80 => ⟨S8x512x64x128, .f32⟩
  | 81 => ⟨S8x512x64x128, .f32⟩
  | 82 => ⟨S1x128x128, .f32⟩
  | 83 => ⟨S128x128, .f32⟩
  | 84 => ⟨S8x512x128, .f32⟩
  | 85 => ⟨S_, .i32⟩
  | 86 => ⟨S8x512x64, .i32⟩
  | 87 => ⟨S8x512x64, .i1⟩
  | 88 => ⟨S_, .i32⟩
  | 89 => ⟨S8x512x64, .i32⟩
  | 90 => ⟨S8x512x64, .i32⟩
  | 91 => ⟨S8x512x64, .i32⟩
  | 92 => ⟨S8x512x64x1, .i32⟩
  | 93 => ⟨S8x512x64x128, .f32⟩
  | 94 => ⟨S8x512x64x128, .f32⟩
  | 95 => ⟨S8x512x64x1, .f32⟩
  | 96 => ⟨S8x512x64x128, .f32⟩
  | 97 => ⟨S8x512x64x128, .f32⟩
  | 98 => ⟨S_, .f32⟩
  | 99 => ⟨S8x512x128, .f32⟩
  | 100 => ⟨S1x128x128, .f32⟩
  | 101 => ⟨S128x128, .f32⟩
  | 102 => ⟨S8x512x128, .f32⟩
  | 103 => ⟨S1x128, .f32⟩
  | 104 => ⟨S128, .f32⟩
  | 105 => ⟨S1x1x128, .f32⟩
  | 106 => ⟨S8x512x128, .f32⟩
  | 107 => ⟨S8x512x128, .f32⟩
  | 108 => ⟨S_, .f32⟩
  | 109 => ⟨S8x512x128, .f32⟩
  | 110 => ⟨S8x512x128, .f32⟩
  | 111 => ⟨S8x512x128, .f32⟩
  | 112 => ⟨S8x512x128, .f32⟩
  | 113 => ⟨S8x512x128, .i1⟩
  | 114 => ⟨S8x512x128, .f32⟩
  | 115 => ⟨S8x512x128, .f32⟩
  | 116 => ⟨S8x512x128, .f32⟩
  | 117 => ⟨S8x512x128, .f32⟩
  | 118 => ⟨S8x512x128, .f32⟩
  | 119 => ⟨S8x512x128, .f32⟩
  | 120 => ⟨S8x512x128, .f32⟩
  | 121 => ⟨S8x512x128, .f32⟩
  | 122 => ⟨S_, .f32⟩
  | 123 => ⟨S_, .f32⟩
  | 124 => ⟨S_, .f32⟩
  | 125 => ⟨S8x512x128, .f32⟩
  | 126 => ⟨S8x512x128, .f32⟩
  | 127 => ⟨S1x128x128, .f32⟩
  | _ => ⟨S8x512, .i32⟩

abbrev hbmTy0_2 (i : Nat) : BufTy := match i % 128 with
  | 0 => ⟨S128x128, .f32⟩
  | 1 => ⟨S8x512x128, .f32⟩
  | 2 => ⟨S1x128, .f32⟩
  | 3 => ⟨S128, .f32⟩
  | 4 => ⟨S1x1x128, .f32⟩
  | 5 => ⟨S8x512x128, .f32⟩
  | 6 => ⟨S8x512x128, .f32⟩
  | 7 => ⟨S8x512x128, .f32⟩
  | _ => ⟨S8x512, .i32⟩

abbrev hbmTy (i : Nat) : BufTy := match i / 128 with
  | 0 => hbmTy0_0 i
  | 1 => hbmTy0_1 i
  | 2 => hbmTy0_2 i
  | _ => ⟨S8x512, .i32⟩

abbrev bufTy : (tb : Table) → Fin (tcTables nBuf tb) → BufTy
  | .hbm, ⟨i, _⟩ => hbmTy i
  | _, _ => ⟨S8x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst : Ref sig .tc := ⟨.hbm, 40, rfl⟩
abbrev main_v20 : Ref sig .tc := ⟨.hbm, 41, rfl⟩
abbrev main_cst_3 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_4 : Ref sig .tc := ⟨.hbm, 46, rfl⟩
abbrev main_cst_5 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_cst : Ref sig .tc := ⟨.hbm, 51, rfl⟩
abbrev main_call0_v3 : Ref sig .tc := ⟨.hbm, 52, rfl⟩
abbrev main_call0_v4 : Ref sig .tc := ⟨.hbm, 53, rfl⟩
abbrev main_call0_cst_0 : Ref sig .tc := ⟨.hbm, 54, rfl⟩
abbrev main_call0_v5 : Ref sig .tc := ⟨.hbm, 55, rfl⟩
abbrev main_call0_v6 : Ref sig .tc := ⟨.hbm, 56, rfl⟩
abbrev main_call0_v7 : Ref sig .tc := ⟨.hbm, 57, rfl⟩
abbrev main_call0_cst_1 : Ref sig .tc := ⟨.hbm, 58, rfl⟩
abbrev main_call0_v8 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_v12 : Ref sig .tc := ⟨.hbm, 63, rfl⟩
abbrev main_call0_v13 : Ref sig .tc := ⟨.hbm, 64, rfl⟩
abbrev main_call0_v14 : Ref sig .tc := ⟨.hbm, 65, rfl⟩
abbrev main_call0_v15 : Ref sig .tc := ⟨.hbm, 66, rfl⟩
abbrev main_call0_v16 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_cst_6 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_call1_cst : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_call1_v3 : Ref sig .tc := ⟨.hbm, 98, rfl⟩
abbrev main_call1_v4 : Ref sig .tc := ⟨.hbm, 99, rfl⟩
abbrev main_call1_v5 : Ref sig .tc := ⟨.hbm, 100, rfl⟩
abbrev main_call1_v6 : Ref sig .tc := ⟨.hbm, 101, rfl⟩
abbrev main_call1_v7 : Ref sig .tc := ⟨.hbm, 102, rfl⟩
abbrev main_call1_v8 : Ref sig .tc := ⟨.hbm, 103, rfl⟩
abbrev main_call1_v9 : Ref sig .tc := ⟨.hbm, 104, rfl⟩
abbrev main_call1_v10 : Ref sig .tc := ⟨.hbm, 105, rfl⟩
abbrev main_call1_v11 : Ref sig .tc := ⟨.hbm, 106, rfl⟩
abbrev main_v49 : Ref sig .tc := ⟨.hbm, 107, rfl⟩
abbrev main_cst_7 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_c_8 : Ref sig .tc := ⟨.hbm, 124, rfl⟩
abbrev main_v65 : Ref sig .tc := ⟨.hbm, 125, rfl⟩
abbrev main_v66 : Ref sig .tc := ⟨.hbm, 126, rfl⟩
abbrev main_c_9 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_cst_10 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_call2_cst : Ref sig .tc := ⟨.hbm, 147, rfl⟩
abbrev main_call2_v0 : Ref sig .tc := ⟨.hbm, 148, rfl⟩
abbrev main_call2_v1 : Ref sig .tc := ⟨.hbm, 149, rfl⟩
abbrev main_call2_v2 : Ref sig .tc := ⟨.hbm, 150, rfl⟩
abbrev main_call2_v3 : Ref sig .tc := ⟨.hbm, 151, rfl⟩
abbrev main_call2_v4 : Ref sig .tc := ⟨.hbm, 152, rfl⟩
abbrev main_call2_v5 : Ref sig .tc := ⟨.hbm, 153, rfl⟩
abbrev main_call2_v6 : Ref sig .tc := ⟨.hbm, 154, rfl⟩
abbrev main_call2_v7 : Ref sig .tc := ⟨.hbm, 155, rfl⟩
abbrev main_call2_v8 : Ref sig .tc := ⟨.hbm, 156, rfl⟩
abbrev main_call2_v9 : Ref sig .tc := ⟨.hbm, 157, rfl⟩
abbrev main_call2_v10 : Ref sig .tc := ⟨.hbm, 158, rfl⟩
abbrev main_call2_v11 : Ref sig .tc := ⟨.hbm, 159, rfl⟩
abbrev main_v85 : Ref sig .tc := ⟨.hbm, 160, rfl⟩
abbrev main_cst_11 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_v100 : Ref sig .tc := ⟨.hbm, 176, rfl⟩
abbrev main_v101 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_call3_cst : Ref sig .tc := ⟨.hbm, 183, rfl⟩
abbrev main_call3_v0 : Ref sig .tc := ⟨.hbm, 184, rfl⟩
abbrev main_call3_v1 : Ref sig .tc := ⟨.hbm, 185, rfl⟩
abbrev main_call3_v2 : Ref sig .tc := ⟨.hbm, 186, rfl⟩
abbrev main_call3_v3 : Ref sig .tc := ⟨.hbm, 187, rfl⟩
abbrev main_call3_v4 : Ref sig .tc := ⟨.hbm, 188, rfl⟩
abbrev main_call3_v5 : Ref sig .tc := ⟨.hbm, 189, rfl⟩
abbrev main_call3_v6 : Ref sig .tc := ⟨.hbm, 190, rfl⟩
abbrev main_call3_v7 : Ref sig .tc := ⟨.hbm, 191, rfl⟩
abbrev main_call3_v8 : Ref sig .tc := ⟨.hbm, 192, rfl⟩
abbrev main_call3_v9 : Ref sig .tc := ⟨.hbm, 193, rfl⟩
abbrev main_call3_v10 : Ref sig .tc := ⟨.hbm, 194, rfl⟩
abbrev main_call3_v11 : Ref sig .tc := ⟨.hbm, 195, rfl⟩
abbrev main_v107 : Ref sig .tc := ⟨.hbm, 196, rfl⟩
abbrev main_cst_12 : Ref sig .tc := ⟨.hbm, 197, rfl⟩
abbrev main_v108 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_v112 : Ref sig .tc := ⟨.hbm, 202, rfl⟩
abbrev main_v113 : Ref sig .tc := ⟨.hbm, 203, rfl⟩
abbrev main_v114 : Ref sig .tc := ⟨.hbm, 204, rfl⟩
abbrev main_v115 : Ref sig .tc := ⟨.hbm, 205, rfl⟩
abbrev main_v116 : Ref sig .tc := ⟨.hbm, 206, rfl⟩
abbrev main_v117 : Ref sig .tc := ⟨.hbm, 207, rfl⟩
abbrev main_v118 : Ref sig .tc := ⟨.hbm, 208, rfl⟩
abbrev main_v119 : Ref sig .tc := ⟨.hbm, 209, rfl⟩
abbrev main_v120 : Ref sig .tc := ⟨.hbm, 210, rfl⟩
abbrev main_v121 : Ref sig .tc := ⟨.hbm, 211, rfl⟩
abbrev main_v122 : Ref sig .tc := ⟨.hbm, 212, rfl⟩
abbrev main_c_13 : Ref sig .tc := ⟨.hbm, 213, rfl⟩
abbrev main_v123 : Ref sig .tc := ⟨.hbm, 214, rfl⟩
abbrev main_v124 : Ref sig .tc := ⟨.hbm, 215, rfl⟩
abbrev main_c_14 : Ref sig .tc := ⟨.hbm, 216, rfl⟩
abbrev main_v125 : Ref sig .tc := ⟨.hbm, 217, rfl⟩
abbrev main_v126 : Ref sig .tc := ⟨.hbm, 218, rfl⟩
abbrev main_v127 : Ref sig .tc := ⟨.hbm, 219, rfl⟩
abbrev main_v128 : Ref sig .tc := ⟨.hbm, 220, rfl⟩
abbrev main_v129 : Ref sig .tc := ⟨.hbm, 221, rfl⟩
abbrev main_v130 : Ref sig .tc := ⟨.hbm, 222, rfl⟩
abbrev main_v131 : Ref sig .tc := ⟨.hbm, 223, rfl⟩
abbrev main_v132 : Ref sig .tc := ⟨.hbm, 224, rfl⟩
abbrev main_v133 : Ref sig .tc := ⟨.hbm, 225, rfl⟩
abbrev main_cst_15 : Ref sig .tc := ⟨.hbm, 226, rfl⟩
abbrev main_v134 : Ref sig .tc := ⟨.hbm, 227, rfl⟩
abbrev main_v135 : Ref sig .tc := ⟨.hbm, 228, rfl⟩
abbrev main_v136 : Ref sig .tc := ⟨.hbm, 229, rfl⟩
abbrev main_v137 : Ref sig .tc := ⟨.hbm, 230, rfl⟩
abbrev main_v138 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_v142 : Ref sig .tc := ⟨.hbm, 235, rfl⟩
abbrev main_call4_cst : Ref sig .tc := ⟨.hbm, 236, rfl⟩
abbrev main_call4_v0 : Ref sig .tc := ⟨.hbm, 237, rfl⟩
abbrev main_call4_v1 : Ref sig .tc := ⟨.hbm, 238, rfl⟩
abbrev main_call4_v2 : Ref sig .tc := ⟨.hbm, 239, rfl⟩
abbrev main_call4_v3 : Ref sig .tc := ⟨.hbm, 240, rfl⟩
abbrev main_call4_v4 : Ref sig .tc := ⟨.hbm, 241, rfl⟩
abbrev main_call4_v5 : Ref sig .tc := ⟨.hbm, 242, rfl⟩
abbrev main_call4_v6 : Ref sig .tc := ⟨.hbm, 243, rfl⟩
abbrev main_call4_v7 : Ref sig .tc := ⟨.hbm, 244, rfl⟩
abbrev main_call4_v8 : Ref sig .tc := ⟨.hbm, 245, rfl⟩
abbrev main_call4_v9 : Ref sig .tc := ⟨.hbm, 246, rfl⟩
abbrev main_call4_v10 : Ref sig .tc := ⟨.hbm, 247, rfl⟩
abbrev main_call4_v11 : Ref sig .tc := ⟨.hbm, 248, rfl⟩
abbrev main_v143 : Ref sig .tc := ⟨.hbm, 249, rfl⟩
abbrev main_cst_16 : Ref sig .tc := ⟨.hbm, 250, rfl⟩
abbrev main_v144 : Ref sig .tc := ⟨.hbm, 251, rfl⟩
abbrev main_v145 : Ref sig .tc := ⟨.hbm, 252, rfl⟩
abbrev main_v146 : Ref sig .tc := ⟨.hbm, 253, rfl⟩
abbrev main_v147 : Ref sig .tc := ⟨.hbm, 254, rfl⟩
abbrev main_v148 : Ref sig .tc := ⟨.hbm, 255, rfl⟩
abbrev main_v149 : Ref sig .tc := ⟨.hbm, 256, rfl⟩
abbrev main_v150 : Ref sig .tc := ⟨.hbm, 257, rfl⟩
abbrev main_v151 : Ref sig .tc := ⟨.hbm, 258, rfl⟩
abbrev main_v152 : Ref sig .tc := ⟨.hbm, 259, rfl⟩
abbrev main_v153 : Ref sig .tc := ⟨.hbm, 260, rfl⟩
abbrev main_v154 : Ref sig .tc := ⟨.hbm, 261, rfl⟩
abbrev main_v155 : Ref sig .tc := ⟨.hbm, 262, rfl⟩
abbrev main_v156 : Ref sig .tc := ⟨.hbm, 263, rfl⟩

abbrev nD : Nat := 1
abbrev τ : Topo := Topo.v7x

variable {F : FTy → Type} [FloatOps F]
-- ==== Proof.Pre.lean ====
/-
  What the precondition `species` says of the arguments, read off the predicate as it is printed, and the words such
  predicates are made of.
-/
module

public import proofs.«01_k».proof.Defs
public import proofs.«01_k».proof.Proof.Gen.Pre_species
public import Idealize.ShloMosaic.Lib.ReduceAll
public import Idealize.ShloMosaic.Lib.Pointwise

@[expose] public section

noncomputable section

namespace Cert.Proof.Pre

open Idealize.ShloMosaic

theorem and_ofBool (p q : Bool) : IntOp.andi (BitVec.ofBool p) (BitVec.ofBool q) = BitVec.ofBool (p && q) := by
  cases p <;> cases q <;> decide

theorem ofBool_one (p : Bool) : (BitVec.ofBool p = 1#1) ↔ p = true := by cases p <;> decide

/-- An `and` that is one had a one on each side. -/
theorem and_one {a b : BitVec 1} (h : IntOp.andi a b = 1#1) : a = 1#1 ∧ b = 1#1 := by
  revert a b; decide

/-- A signed word that is not negative and below 100 is below 100 as a number. -/
theorem word_lt_100 (v : BitVec 32) (e : IntOp.andi (IntOp.cmpi .sge v 0#32) (IntOp.cmpi .slt v 100#32) = 1#1) : v.toNat < 100 := by
  simp only [IntOp.cmpi, and_ofBool, ofBool_one, Bool.and_eq_true, BitVec.sle_eq_decide, BitVec.slt_eq_decide,
    decide_eq_true_eq, BitVec.toInt_eq_toNat_cond, BitVec.toNat_ofNat, Nat.reducePow, Nat.reduceMod] at e
  omega

/-- A signed word that is not negative and below 512 is below 512 as a number. -/
theorem word_lt_512 (v : BitVec 32) (e : IntOp.andi (IntOp.cmpi .sge v 0#32) (IntOp.cmpi .slt v 512#32) = 1#1) : v.toNat < 512 := by
  simp only [IntOp.cmpi, and_ofBool, ofBool_one, Bool.and_eq_true, BitVec.sle_eq_decide, BitVec.slt_eq_decide,
    decide_eq_true_eq, BitVec.toInt_eq_toNat_cond, BitVec.toNat_ofNat, Nat.reducePow, Nat.reduceMod] at e
  omega

/-- A comparison `==` of two extended reals that is one says they are equal. -/
theorem eq_of_oeq (x y : Ideal .f32) (e : FloatOps.cmpf (F := Ideal) .oeq x y = 1#1) : x = y := by
  simpa [Ideal.cmpf_def, Ideal.cmp, ofBool_one] using e

theorem bits_zero : Ideal.ofBits .f32 0x00000000#32 = (0 : EReal) := by
  simp [Ideal.ofBits, Ideal.ieee]

theorem bits_one : Ideal.ofBits .f32 0x3F800000#32 = (1 : EReal) := by
  simp [Ideal.ofBits, Ideal.ieee, -EReal.coe_mul]; norm_num

instance : Subsingleton Cert.Pre_species.S_.Idx := ⟨fun a b => funext fun k => k.elim0⟩

section
variable {F : FTy → Type} [FloatOps F]

open Cert.Pre_species in
/-- `species`: every atomic number is below 100. -/
theorem species_lt (x0 : IVec S8x512 32) (x1 : FVec F S8x512x3 .f32) (x2 : FVec F S8x3x3 .f32) (x3 : FVec F S8x512x64x3 .f32)
    (x4 : IVec S8x512x64 32) (x5 : FVec F S8x512x64 .f32) (x6 : FVec F S100x128 .f32) (x7 : FVec F S2x25x128 .f32)
    (x8 : FVec F S2x128 .f32) (x9 : FVec F S2x128x128 .f32) (x10 : FVec F S2x128 .f32) (x11 x12 : FVec F S2x128x128 .f32)
    (x13 : FVec F S2x128 .f32) (x14 : FVec F S2x128x128 .f32) (x15 : FVec F S2x128 .f32)
    (h : fn x0 x1 x2 x3 x4 x5 x6 x7 x8 x9 x10 x11 x12 x13 x14 x15 = fun _ => 1#1) (i : S8x512.Idx) : (x0 i).toNat < 100 := by
  have e := congrFun h (Shape.Idx.first Facts.h_S_)
  exact word_lt_100 _ (Host.reduce_andi_all _ _ _ _ _ e i)

end

end Cert.Proof.Pre

end
-- ==== Proof.Ker.Base.lean ====
/-
  The program as the launch theorem sees it: its configuration, the ghost state of the run, the buffers the SparseCore
  call touches, and what its handshakes carry.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Points
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.FrameBody
public import Idealize.ShloMosaic.Lib.Pipeline.FrameSuffix
public import Idealize.ShloMosaic.Lib.ValueIdxCore
public import Idealize.ShloMosaic.Lib.Tactic

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Named F]

/-! ## The configuration -/

abbrev ΛP : Labels := Pipeline.Sig Λ₀ (Fin 3) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipelines' rounds, the copies' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
/-- The pipelines' rounds inside the run's resource. -/
abbrev EP : Emb UP (MT nD τ sig (HIx 1) (Elt F) ℕ UU ℕ) :=
  ((Emb.inl : Emb UP (UP × Counters)).trans (Emb.inr : Emb (UP × Counters) UU)).trans (uEmb : UEmb UU (MT nD τ sig (HIx 1) (Elt F) ℕ UU ℕ)).toEmb

instance : (EP (F := F)).LandsIn (upEmb : UEmb _ 𝕄) := by unfold EP; infer_instance

/-- What a region's body may use and need not describe: the scoped buffers that are no window's staging, and the
    generator register. -/
def ΨR {gr n : ℕ} (win : Fin n → Pipeline.WinSpec sig gr) (c : Dev nD) : sProp 𝕄 :=
  iprop(Pipeline.scopedRest (Ix := HIx 1) (Name := ℕ) (U := UU) (Lvl := ℕ) (Val := Elt F) win c ∗ ∃ r, prngReg c r)

/-! ## The buffers of the call -/

abbrev zLoc (d : Dev nD) : Loc nD τ sig := (SparseCore.T d).loc main_v0
abbrev eLoc (d : Dev nD) : Loc nD τ sig := (SparseCore.T d).loc main_arg6
abbrev xLoc (d : Dev nD) : Loc nD τ sig := (SparseCore.T d).loc main_v1

abbrev zV : Memref sig .scVector .hbm S4096 .i32 := Memref.whole main_v0_scv
abbrev eV : Memref sig .scVector .hbm S100x128 .f32 := Memref.whole main_arg6_scv
abbrev xV : Memref sig .scVector .hbm S4096x128 .f32 := Memref.whole main_v1_scv
abbrev sV : Memref sig .scVector .vmem S128 .i32 := Memref.whole cc0_scratch0
abbrev rV : Memref sig .scVector .vmem S128x128 .f32 := Memref.whole cc0_scratch1

theorem zdiv : 32 ∣ S4096.size 0 := ⟨128, rfl⟩
theorem xdiv : 32 ∣ S4096x128.size 0 := ⟨128, rfl⟩
/-- Worker `w`'s 128 numbers, and its 128 rows of the output. -/
abbrev zrow (w : Fin 32) : Rect S4096 := Rect.part (s := S4096) (a₀ := 0) zdiv w
abbrev xrow (w : Fin 32) : Rect S4096x128 := Rect.part (s := S4096x128) (a₀ := 0) xdiv w
abbrev zSet (w : Fin 32) : Finset S4096.Idx := (zV.view.slice (zrow w)).set
abbrev xSet (w : Fin 32) : Finset S4096x128.Idx := (xV.view.slice (xrow w)).set

/-- Worker of core `c`, subcore `i`: `2 i + c`. -/
def wid (c : Fin 2) (i : Fin 16) : Fin 32 := ⟨2 * i.val + c.val, by omega⟩

theorem pos32 : 0 < 32 := by decide
/-- Worker `w`'s share of the embedding table. -/
abbrev eShare (w : Fin 32) : PosShare TreeShare := pieceOf fullShare 32 pos32 w

/-! ## What the handshakes carry -/

/-- The embedding row of each of the 4096 numbers (row 0 where the number is out of range, which the precondition
    excludes). -/
def gathered (W : Valuation τ sig (Elt F)) : (⟨S4096x128, .f32⟩ : BufTy).Contents (Elt F) := fun j =>
  (W (Proc.devRef .tc main_arg6) : (⟨S100x128, .f32⟩ : BufTy).Contents (Elt F))
    (ix2 (Fin.ofNat 100 ((W (Proc.devRef .tc main_v0) : (⟨S4096, .i32⟩ : BufTy).Contents (Elt F)) (ix1 (j 0))).toNat) (j 1))

variable (W : Dev nD → Valuation τ sig (Elt F))

abbrev zRowPts (d : Dev nD) (w : Fin 32) : sProp 𝕄 := zLoc d ↦[zSet w]{fullShare} W d (Proc.devRef .tc main_v0)
abbrev eShPts (d : Dev nD) (w : Fin 32) : sProp 𝕄 := eLoc d ↦{eShare w} W d (Proc.devRef .tc main_arg6)
abbrev xRowPts (d : Dev nD) (w : Fin 32) (f : Buf (Elt F) (xLoc d)) : sProp 𝕄 := xLoc d ↦[xSet w]{fullShare} f

/-- What worker `w` is handed: its numbers, its share of the table, its rows of the output as they are. -/
abbrev goP (d : Dev nD) (w : Fin 32) : sProp 𝕄 :=
  iprop(zRowPts W d w ∗ eShPts W d w ∗ xRowPts (F := F) d w (W d (Proc.devRef .tc main_v1)))
/-- What it hands back: the same, its rows of the output gathered. -/
abbrev tdP (d : Dev nD) (w : Fin 32) : sProp 𝕄 :=
  iprop(zRowPts W d w ∗ eShPts W d w ∗ xRowPts (F := F) d w (gathered (W d)))

abbrev cIx (c : Fin ((K (F := F)).nCore 0)) : Fin 2 := Fin.cast nCore_zero c
abbrev sIx (i : Fin ((K (F := F)).nSub 0)) : Fin 16 := Fin.cast nSub_zero i

/-- The one call's payloads: each core its sixteen workers', each subcore its worker's. -/
def P : (K (F := F)).Pay (nD := nD) (Val := Elt F) (Name := ℕ) (U := UU) where
  st := fun q d c => match q with
    | 0 => bigSep Finset.univ fun i : Fin ((K (F := F)).nSub 0) => goP W d (wid (cIx c) (sIx i))
  dn := fun q d c => match q with
    | 0 => bigSep Finset.univ fun i : Fin ((K (F := F)).nSub 0) => tdP W d (wid (cIx c) (sIx i))
  go := fun q d c i => match q with | 0 => goP W d (wid (cIx c) (sIx i))
  td := fun q d c i => match q with | 0 => tdP W d (wid (cIx c) (sIx i))
  x := fun _ _ => iprop(emp)

instance P_storable : (P (F := F) W).IsStorable where
  st q d c := match q with
    | 0 => (inferInstance : BI.Storable (upEmb : UEmb _ 𝕄)
        (bigSep Finset.univ fun i : Fin ((K (F := F)).nSub 0) => goP W d (wid (cIx c) (sIx i))))
  dn q d c := match q with
    | 0 => (inferInstance : BI.Storable (upEmb : UEmb _ 𝕄)
        (bigSep Finset.univ fun i : Fin ((K (F := F)).nSub 0) => tdP W d (wid (cIx c) (sIx i))))
  go q d c i := match q with
    | 0 => (inferInstance : BI.Storable (upEmb : UEmb _ 𝕄) (goP W d (wid (cIx c) (sIx i))))
  td q d c i := match q with
    | 0 => (inferInstance : BI.Storable (upEmb : UEmb _ 𝕄) (tdP W d (wid (cIx c) (sIx i))))

/-- What the call asks: every one of the 4096 numbers names a row of the table. -/
def PreOK : Prop := ∀ (d : Dev nD) (j : S4096.Idx),
  ((W d (Proc.devRef .tc main_v0) : (⟨S4096, .i32⟩ : BufTy).Contents (Elt F)) j).toNat < 100

/-- The split of a core's operands over its subcores is the payload itself. -/
theorem vecSplit : (K (F := F)).VecSplit' (P W) 0 := by
  intro d c
  show (bigSep Finset.univ fun i : Fin ((K (F := F)).nSub 0) => goP W d (wid (cIx c) (sIx i))) ⊢ |={Set.univ}=> iprop(
      (bigSep Finset.univ fun i : Fin ((K (F := F)).nSub 0) => goP W d (wid (cIx c) (sIx i)))
      ∗ ((bigSep Finset.univ fun i : Fin ((K (F := F)).nSub 0) => tdP W d (wid (cIx c) (sIx i)))
          -∗ (bigSep Finset.univ fun i : Fin ((K (F := F)).nSub 0) => tdP W d (wid (cIx c) (sIx i)))))
  iintro H; imodintro
  isplitl [H]; · iexact H
  iintro H; iexact H

end Cert.Proof.Ker
-- ==== Proof.Ker.Tile.lean ====
/-
  One vector subcore's task, at any subcore: it fetches its 128 numbers, gathers the rows they name from the embedding
  table, and writes them to its 128 rows of the output.
-/
module

public import proofs.«01_k».proof.Proof.Ker.Base
public import Idealize.ShloMosaic.Lib.Pipeline.ValueKit

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Named F]

local notation "𝕄" => MT nD τ sig (HIx 1) (Elt F) ℕ UU ℕ

variable (W : Dev nD → Valuation τ sig (Elt F)) (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The worker a tile is. -/
abbrev wL (L : grid0.Coords) : Fin 32 := wid (Fin.cast bound_zero (L 0)) (Fin.cast bound_one (L 1))

theorem wL_val : (wL L).val = 2 * (L 1).val + (L 0).val := rfl

abbrev zrowK (L : grid0.Coords) : Rect S4096 := Rect.unit (s := S4096) (k0_off1 L) S128.size (k0_off1_inb L)
abbrev xrowK (L : grid0.Coords) : Rect S4096x128 := Rect.unit (s := S4096x128) (k0_off2 L) S128x128.size (k0_off2_inb L)
/-- The task's numbers, its rows of the output and the whole table, as it addresses them. -/
abbrev zK (L : grid0.Coords) : Memref sig .scVector .hbm S128 .i32 := zV.slice (zrowK L) (fun _ => rfl)
abbrev xK (L : grid0.Coords) : Memref sig .scVector .hbm S128x128 .f32 := xV.slice (xrowK L) (fun _ => rfl)
abbrev eK : Memref sig .scVector .hbm S100x128 .f32 :=
  eV.slice (Rect.unit (s := S100x128) ![0, 0] S100x128.size inb_S100x128_S100x128_0_0) (fun _ => rfl)

theorem zrowK_eq : zrowK L = zrow (wL L) := by
  unfold zrowK zrow Rect.part Rect.block
  congr 1 <;> funext a
  · rw [k0_off1_eq]
    match a with
    | 0 => simp [Shape.partIx, Shape.partSize, wL_val]; omega
  · match a with
    | 0 => simp [Shape.partSize]
theorem xrowK_eq : xrowK L = xrow (wL L) := by
  unfold xrowK xrow Rect.part Rect.block
  congr 1 <;> funext a
  · rw [k0_off2_eq]
    match a with
    | 0 => simp [Shape.partIx, Shape.partSize, wL_val]; omega
    | 1 => simp [Shape.partIx, Shape.partSize]
  · match a with
    | 0 => simp [Shape.partSize]
    | 1 => simp [Shape.partSize]

theorem set_zK : (zK L).view.set = zSet (wL L) := by
  show (zV.view.slice (zrowK L)).set = (zV.view.slice (zrow (wL L))).set
  exact zrowK_eq L ▸ rfl
theorem set_xK : (xK L).view.set = xSet (wL L) := by
  show (xV.view.slice (xrowK L)).set = (xV.view.slice (xrow (wL L))).set
  exact xrowK_eq L ▸ rfl

theorem pts_zK (f : Buf (Elt F) (zLoc d)) :
    ((zK L).view.loc (V d (cV L) (jV L)) ↦[(zK L).view.set]{fullShare} f : sProp 𝕄) = zLoc d ↦[zSet (wL L)]{fullShare} f := by
  rw [set_zK]
theorem pts_xK (f : Buf (Elt F) (xLoc d)) :
    ((xK L).view.loc (V d (cV L) (jV L)) ↦[(xK L).view.set]{fullShare} f : sProp 𝕄) = xLoc d ↦[xSet (wL L)]{fullShare} f := by
  rw [set_xK]
theorem pts_eV (q : PosShare TreeShare) (f : Buf (Elt F) (eLoc d)) :
    (eV.view.loc (V d (cV L) (jV L)) ↦{q} f : sProp 𝕄) = eLoc d ↦{q} f := rfl
theorem pts_sV (f : Buf (Elt F) ((V d (cV L) (jV L)).loc cc0_scratch0)) :
    (sV.view.loc (V d (cV L) (jV L)) ↦{fullShare} f : sProp 𝕄) = (V d (cV L) (jV L)).loc cc0_scratch0 ↦{fullShare} f := rfl
theorem pts_rV (f : Buf (Elt F) ((V d (cV L) (jV L)).loc cc0_scratch1)) :
    (rV.view.loc (V d (cV L) (jV L)) ↦{fullShare} f : sProp 𝕄) = (V d (cV L) (jV L)).loc cc0_scratch1 ↦{fullShare} f := rfl

/-! ## The subcore's own semaphores and scratch buffers -/

abbrev cA (d : Dev nD) (c : Fin τ.nSC) (i : Fin τ.nSub) : GSem nD τ sig := (V d c i, .dma cc0_scoped0.sem)
abbrev cB (d : Dev nD) (c : Fin τ.nSC) (i : Fin τ.nSub) : GSem nD τ sig := (V d c i, .dma cc0_scratch2.sem)
abbrev cC (d : Dev nD) (c : Fin τ.nSC) (i : Fin τ.nSub) : GSem nD τ sig := (V d c i, .dma cc0_scoped1.sem)

/-- A semaphore of the subcore taken out of a set of its own. -/
theorem own_take {S : Finset (GSem nD τ sig)} {g : GSem nD τ sig} (h : g ∈ S) :
    (bigSep S fun g => (semVal g 0 : sProp 𝕄)) = iprop(semVal g 0 ∗ bigSep (S.erase g) fun g => semVal g 0) :=
  SparseCore.bigSep_erase' h

theorem ownSems0_V :
    (ownSems0 (V d (cV L) (jV L)) : sProp 𝕄)
      = iprop(semVal (cA d (cV L) (jV L)) 0 ∗ semVal (cB d (cV L) (jV L)) 0 ∗ semVal (cC d (cV L) (jV L)) 0
          ∗ bigSep ((((ownCells (V d (cV L) (jV L))).erase (cA d (cV L) (jV L))).erase (cB d (cV L) (jV L))).erase (cC d (cV L) (jV L))) fun g => semVal g 0) := by
  have mA : cA d (cV L) (jV L) ∈ ownCells (V d (cV L) (jV L)) :=
    mem_ownCells.mpr ⟨rfl, show (SemLoc.dma cc0_scoped0.sem : SemLoc sig).isScoped .scVector = true by decide⟩
  have mB : cB d (cV L) (jV L) ∈ ownCells (V d (cV L) (jV L)) :=
    mem_ownCells.mpr ⟨rfl, show (SemLoc.dma cc0_scratch2.sem : SemLoc sig).isScoped .scVector = true by decide⟩
  have mC : cC d (cV L) (jV L) ∈ ownCells (V d (cV L) (jV L)) :=
    mem_ownCells.mpr ⟨rfl, show (SemLoc.dma cc0_scoped1.sem : SemLoc sig).isScoped .scVector = true by decide⟩
  have hBA : cB d (cV L) (jV L) ≠ cA d (cV L) (jV L) := by simp [cA, cB]; decide
  have hCA : cC d (cV L) (jV L) ≠ cA d (cV L) (jV L) := by simp [cA, cC]; decide
  have hCB : cC d (cV L) (jV L) ≠ cB d (cV L) (jV L) := by simp [cB, cC]; decide
  unfold SparseCore.Cfg.ownSems0
  rw [own_take mA, own_take (Finset.mem_erase.mpr ⟨hBA, mB⟩),
    own_take (Finset.mem_erase.mpr ⟨hCB, Finset.mem_erase.mpr ⟨hCA, mC⟩⟩)]

/-- The two scratch buffers are among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  have m0 : (Proc.scVector (cV L) (jV L)).devRef cc0_scratch0 ∈ ownRefs (τ := τ) (.scVector (cV L) (jV L)) :=
    SparseCore.Cfg.mem_ownRefs_of_owner (p := Proc.scVector (cV L) (jV L)) rfl
  have m1 : (Proc.scVector (cV L) (jV L)).devRef cc0_scratch1 ∈ ownRefs (τ := τ) (.scVector (cV L) (jV L)) :=
    SparseCore.Cfg.mem_ownRefs_of_owner (p := Proc.scVector (cV L) (jV L)) rfl
  have hne : (Proc.scVector (cV L) (jV L)).devRef cc0_scratch1 ≠ (Proc.scVector (cV L) (jV L)).devRef cc0_scratch0 := fun e =>
    absurd (Proc.devRef_injective _ e) (show (cc0_scratch1 : Ref sig .scVector) ≠ cc0_scratch0 by decide)
  unfold SparseCore.Cfg.ownBufs
  exact (SparseCore.bigSep_erase' m0).trans (by rw [SparseCore.bigSep_erase' (Finset.mem_erase.mpr ⟨hne, m1⟩)])

/-! ## What the list holds, and what the task leaves -/

/-- The numbers fetched are the worker's, each naming a row of the table. -/
theorem inb_of_pre (hpre : PreOK W) (fs : Buf (Elt F) ((V d (cV L) (jV L)).loc cc0_scratch0)) (pay : S128.Idx → Elt F .i32)
    (hpay : pay = (zK L).view.read (Elt F) (W d (Proc.devRef .tc main_v0))) :
    ∀ x, (sV.view.read (Elt F) (View.write (Elt F) sV.view fs pay Finset.univ) x).toNat < S100x128.size gathers_S100x128_S128x128.axis := by
  subst hpay; intro x
  rw [View.write_whole_univ]
  simp only [Memref.view_whole, View.read_whole]
  rw [View.read_apply, cast_eq]
  exact hpre d _

/-- The rows the task writes are the gathered rows. -/
theorem leaves (hpre : PreOK W) (f₀ : Buf (Elt F) (xLoc d)) (g : S128.Idx → Elt F .i32)
    (hg : g = (zK L).view.read (Elt F) (W d (Proc.devRef .tc main_v0)))
    (hin : ∀ x, (g x).toNat < S100x128.size gathers_S100x128_S128x128.axis) (pay : S128x128.Idx → Elt F .f32)
    (hpay : pay = SparseCore.gatherPayload gathers_S100x128_S128x128 (eK.view.read (Elt F) (W d (Proc.devRef .tc main_arg6)))
      (SparseCore.rows g (o := S128x128.size gathers_S100x128_S128x128.axis') rfl hin)) :
    ∀ i ∈ (xK L).view.set, (xK L).view.writes (Elt F) f₀ [⟨Rect.whole S128x128, pay⟩] i = gathered (W d) i := by
  intro i hi
  obtain ⟨x, -, rfl⟩ := Finset.mem_map.mp hi
  subst hg
  have hz : ∀ y : S128.Idx, ((zK L).view.emb y 0).val = 256 * (L 1).val + 128 * (L 0).val + (y 0).val := fun y => by
    refine (ValueKit.view_emb_slice_whole_unit_val main_v0_scv (k0_off1 L) S128.size (k0_off1_inb L) y 0).trans ?_
    exact congrArg (· + (y 0).val) (congrFun (k0_off1_eq L) 0)
  have hx0 : ∀ y : S128x128.Idx, ((xK L).view.emb y 0).val = 256 * (L 1).val + 128 * (L 0).val + (y 0).val := fun y => by
    refine (ValueKit.view_emb_slice_whole_unit_val main_v1_scv (k0_off2 L) S128x128.size (k0_off2_inb L) y 0).trans ?_
    exact congrArg (· + (y 0).val) (congrFun (k0_off2_eq L) 0)
  have hx1 : ∀ y : S128x128.Idx, ((xK L).view.emb y 1).val = (y 1).val := fun y => by
    refine (ValueKit.view_emb_slice_whole_unit_val main_v1_scv (k0_off2 L) S128x128.size (k0_off2_inb L) y 1).trans ?_
    exact (congrArg (· + (y 1).val) (congrFun (k0_off2_eq L) 1)).trans (Nat.zero_add _)
  have he : ∀ (y : S100x128.Idx) (a : Fin 2), (eK.view.emb y a).val = (y a).val := fun y a => by
    refine (ValueKit.view_emb_slice_whole_unit_val main_arg6_scv ![0, 0] S100x128.size inb_S100x128_S100x128_0_0 y a).trans ?_
    match a with
    | 0 => exact Nat.zero_add _
    | 1 => exact Nat.zero_add _
  have hrm : ∀ k : Fin 128, (S128.rowMajor.symm k 0).val = k.val := fun k => by
    have h := congrArg Fin.val (S128.rowMajor.apply_symm_apply k)
    rw [Shape.rowMajor_val_one] at h; exact h
  rw [← View.write_univ_eq_writes_whole, View.write_emb_of_mem _ _ (Finset.mem_univ x), cast_eq, hpay]
  unfold SparseCore.gatherPayload
  rw [View.read_apply, cast_eq]
  unfold gathered
  refine congrArg (W d (Proc.devRef .tc main_arg6) : S100x128.Idx → Elt F .f32) (funext fun a => Fin.ext ?_)
  refine (he _ a).trans ?_
  match a with
  | 0 =>
    refine (congrArg Fin.val (Shape.Gathers.idx_axis gathers_S100x128_S128x128 _ x)).trans ?_
    unfold SparseCore.rows
    refine (congrArg BitVec.toNat (show View.read (Elt F) (zK L).view (W d (Proc.tc.devRef main_v0)) _ = W d (Proc.tc.devRef main_v0) _ by
      rw [View.read_apply, cast_eq])).trans ?_
    refine Eq.trans ?_ (Nat.mod_eq_of_lt (hpre d (ValueIdx.ix1 ((xK L).view.emb x 0)))).symm
    refine congrArg (fun j => BitVec.toNat (W d (Proc.tc.devRef main_v0) j)) ?_
    refine (ValueIdx.eq_ix1 _).trans (congrArg ValueIdx.ix1 (Fin.ext ?_))
    exact (hz _).trans ((congrArg (256 * (L 1).val + 128 * (L 0).val + ·) (hrm _)).trans (hx0 x).symm)
  | 1 =>
    refine (Shape.Gathers.idx_of_ne gathers_S100x128_S128x128 _ x 1 (by decide)).trans ?_
    exact (hx1 x).symm

set_option maxHeartbeats 4000000 in
/-- The task at any subcore: it hands back its rows gathered, its scratch, its semaphores at zero. -/
theorem tile_body (hF : (K (F := F)).Facts) (hpre : PreOK W) (O : CellTallies nD τ sig (HIx 1)) (Ws : Waits sig (HIx 1)) (hO : ∀ g, O g none = 0) :
    iprop(levAts (K (F := F)).L (K (F := F)).lev ∗ emp
        ∗ goP W d (wL L)
        ∗ scopedBufs (V d (cV L) (jV L)) ∗ scopedSems0 (V d (cV L) (jV L)) ∗ owes (V d (cV L) (jV L)) O Ws)
      ⊢ wp frame (wpE (defs₀ (F := F)) 𝒱₀ (V d (cV L) (jV L)) none) Set.univ
          (cc0_k L zV (Memref.isWhole_whole _) eV (Memref.isWhole_whole _) xV (Memref.isWhole_whole _)
            sV (Memref.isWhole_whole _) rV (Memref.isWhole_whole _) cc0_scratch2 cc0_scoped0 cc0_scoped1)
          fun _ => iprop(tdP W d (wL L)
            ∗ scopedBufs (V d (cV L) (jV L)) ∗ scopedSems0 (V d (cV L) (jV L))
            ∗ ∃ W', ⌜∀ p ∈ W', p ∈ Ws ∨ p.2 = none⌝ ∗ owes (V d (cV L) (jV L)) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  iintro ⟨#Hlv, -, ⟨Hz, He, Hx⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hz' := (Entails.of_eq (pts_zK (F := F) d L _).symm) $$ Hz
  ihave Hx' := (Entails.of_eq (pts_xK (F := F) d L _).symm) $$ Hx
  ihave He' := (Entails.of_eq (pts_eV (F := F) d L _ _).symm) $$ He
  ihave Hs' := (Entails.of_eq (pts_sV (F := F) d L _).symm) $$ Hs
  ihave Hr' := (Entails.of_eq (pts_rV (F := F) d L _).symm) $$ Hr
  sl_exec
  ihave Hes := (pointsTo_split_subset (ℓ := eLoc d) (q := eShare (wL L)) (f := W d (Proc.devRef .tc main_arg6)) (S := Finset.univ) (Finset.subset_univ (eK).view.set)).1 $$ He'
  icases Hes with ⟨Hes, Her⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 W d L) Finset.univ : sProp 𝕄)
      = (sV).view.loc (V d (cV L) (jV L)) ↦[(sV).view.set]{fullShare} View.write (Elt F) (sV).view fs (tile_body.sl.dma0 W d L) Finset.univ
      by rw [hss])) $$ Hs'
  have hN : ∀ h : S100x128.Gathers 0 S128x128, ∑ j, ((rV).slice (S128x128.rowRect h.axis' j) (S128x128.stride_rowRect h.axis' j)).view.dmaCredit
      = (rV).view.dmaCredit := by decide
  iapply (SparseCore.wp_indirectGatherLocal countersEmb 𝒱₀ (V d (cV L) (jV L)) none (hg := gathers_S100x128_S128x128) (default : HIx 1)
      (rV).view.dmaCredit (hN _) (by decide) (inb_of_pre W d L hpre fs _ rfl)) $$ [Hes Hr'' Hs'' HsemB]
  · isplitl [Hes]; · iexact Hes
    isplitl [Hr'']; · iexact Hr''
    isplitl [Hs'']; · iexact Hs''
    iexact HsemB
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hes, Hs'⟩, HsemB, HO⟩
  ihave He' := (pointsTo_split_subset (ℓ := eLoc d) (q := eShare (wL L)) (f := W d (Proc.devRef .tc main_arg6)) (S := Finset.univ) (Finset.subset_univ (eK).view.set)).2 $$ [Hes Her]; · isplitl [Hes] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  have hg : sV.view.read (Elt F) (View.write (Elt F) sV.view fs ((zK L).view.read (Elt F) (W d (Proc.tc.devRef main_v0))) Finset.univ)
      = (zK L).view.read (Elt F) (W d (Proc.tc.devRef main_v0)) := by
    rw [View.write_whole_univ]; simp only [Memref.view_whole, View.read_whole]
  have hpay : tile_body.sl.dma0_1 W d L hpre fs fr
      = SparseCore.gatherPayload gathers_S100x128_S128x128 (eK.view.read (Elt F) (W d (Proc.devRef .tc main_arg6)))
          (SparseCore.rows (sV.view.read (Elt F) (View.write (Elt F) sV.view fs ((zK L).view.read (Elt F) (W d (Proc.tc.devRef main_v0))) Finset.univ))
            (o := S128x128.size gathers_S100x128_S128x128.axis') rfl (inb_of_pre W d L hpre fs _ rfl)) := by
    unfold tile_body.sl.dma0_1
    refine (show ReadAs.same.apply _ = _ from rfl).trans ?_
    rw [View.write_whole_univ]; simp only [Memref.view_whole, View.read_whole]
  have hlv := leaves W d L hpre (W d (Proc.tc.devRef main_v1)) _ hg _ _ hpay
  isplitl [Hz' He' Hx']
  · isplitl [Hz']; · iapply (Entails.of_eq (pts_zK (F := F) d L _)); iexact Hz'
    isplitl [He']; · iexact He'
    iapply (Entails.of_eq ((pointsTo_congr hlv).trans (pts_xK (F := F) d L _))); iexact Hx'
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

/-- The tile's coordinates in the launch's grid. -/
def coordsV (c : Fin (grid0.bound 0)) (s : Fin (grid0.bound 1)) : grid0.Coords :=
  fun | 0 => c | 1 => s | ⟨_ + 2, h⟩ => absurd h (Nat.not_lt.2 (Nat.le_add_left _ _))

/-- The table's row at a vector subcore is the task at its coordinates. -/
theorem defs₀_vector (c : Fin τ.nSC) (s : Fin τ.nSub) :
    defs₀ (F := F) (.scVector c s) 0 ()
      = SparseCore.onTile hcore0 hsub0 (fun c s => cc0_k (coordsV c s)
          zV (Memref.isWhole_whole _) eV (Memref.isWhole_whole _) xV (Memref.isWhole_whole _)
          sV (Memref.isWhole_whole _) rV (Memref.isWhole_whole _) cc0_scratch2 cc0_scoped0 cc0_scoped1) ⟨⟩ c s := rfl

/-- A wait recorded at no call is one recorded at no call or at this one. -/
theorem obl_post {thr : Thread nD τ} {A B C : sProp 𝕄} {O : CellTallies nD τ sig (HIx 1)} {Ws : Waits sig (HIx 1)} {q : Fin 1} :
    iprop(A ∗ B ∗ C ∗ ∃ W', ⌜∀ p ∈ W', p ∈ Ws ∨ p.2 = none⌝ ∗ owes thr O W')
      ⊢ iprop(A ∗ B ∗ C ∗ ∃ W', ⌜∀ p ∈ W', p ∈ Ws ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile of the call meets its obligation. -/
theorem tileObl (hF : (K (F := F)).Facts) (hpre : PreOK W) : (K (F := F)).TileObl (D (F := F)) 𝒱 (P W) v₀ 0 := by
  intro d c i O Ws hO _ _
  simp only [show (P W).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body W d (coordsV ⟨_, hci.1⟩ ⟨_, hci.2⟩) hF hpre O Ws hO).trans (wp_mono frame _ _ fun _ => obl_post)

end Cert.Proof.Ker
-- ==== Proof.Ker.Region1.lean ====
/-
  The projection region: what its body leaves, and its obligation at every point.
-/
module

public import proofs.«01_k».proof.Proof.Ker.Base
public import Idealize.ShloMosaic.Lib.Pipeline.RegionsLoop
public import Idealize.ShloMosaic.Lib.Ring
public import Idealize.ShloMosaic.Lib.WordCmp

@[expose] public section

set_option maxRecDepth 16384

noncomputable section

namespace Cert.Proof.Ker

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

variable (V : (c : Dev nD) → (b : Ref sig .tc) → Buf (Elt F) ((c : Thread nD τ).loc b))

/-- Window `w`'s block at point `t` of the array it reads or writes, as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) (HIx 1) ℕ UU ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) (HIx 1) ℕ UU ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S512x128 := Rect.unit (s := S512x128) ![0, 0] S512x128.size inb_S512x128_S512x128_0_0
abbrev r1_1 : Rect S128x128 := Rect.unit (s := S128x128) ![0, 0] S128x128.size inb_S128x128_S128x128_0_0

/-! ## What the body leaves in each output window's buffer -/

/-- What the body leaves in the output window's staging buffer, from the input windows' blocks. -/
def out1_2 (x0 : Vec F S512x128 .f32) (x1 : Vec F S128x128 .f32) : Vec F S512x128 .f32 :=
  View.canon [⟨r1_0, k1_pay1 (View.ld x0 r1_0) (View.ld x1 r1_1)⟩]

theorem cover1_2 (p0 : Vec F S512x128 .f32) (y : S512x128.Idx) :
    ∃ pc ∈ ([⟨r1_0, p0⟩] : List (View.Piece (Elt F) S512x128 .f32)), y ∈ pc.1.set :=
  View.cover_of_tiled [⟨r1_0, p0⟩] S512x128.size (by rfl) y

/-! ## The body's triple -/

set_option maxHeartbeats 1000000 in
/-- The body, run on any whole staging buffers: inputs as they were, outputs at what the body computes of them. -/
theorem sound_kernel1 (c : Dev nD) (E : Set ℕ) (i : grid1.Coords) (arg1 : Memref sig .tc .vmem S512x128 .f32) (harg1 : arg1.IsWhole) (arg2 : Memref sig .tc .vmem S128x128 .f32) (harg2 : arg2.IsWhole) (arg3 : Memref sig .tc .vmem S512x128 .f32) (harg3 : arg3.IsWhole)
    (x0 : Vec F S512x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) 𝒱₀ c none) E (cc1__proj_body i arg1 harg1 arg2 harg2 arg3 harg3) K := by
  simp only [cc1__proj_body_eq_skeleton]; unfold cc1__proj_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The region's proof data: arrays as found, each input's buffer at its block, each output's at what the body computes. -/
def dat1 (c : Dev nD) : Dat τ (Elt F) (HIx 1) ℕ UU ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := ΨR spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt none t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt none t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point of the grid. -/
theorem sound_body1 (c : Dev nD) (t : Fin cfg1.N) :
    bodyPre1 V c t ⊢ wp frame (wpE (defs₀ (F := F)) 𝒱₀ c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt none t.succ = (dat1 V c).owesAt none t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row1 (t : Fin cfg1.N) :
    defs₀ (F := F) .tc cfg1.body (cfg1.bodyArgs t (cfg1.slots t)) = bodyAt1 t := by
  rfl

/-- The body meets its obligation at every point of the grid. -/
theorem body_obligation1 (c : Dev nD) : BodyObligation (dat1 (F := F) V c) (defs₀ (F := F)) 𝒱₀ none Set.univ := fun t => by
  rw [bigSep_W1, bigSep_W1, defs₀_row1]
  exact triple_restated (sound_body1 V c t) rfl .rfl fun _ => .rfl

/-! # REGION 1 of @main: custom_call 1, `cc2__block_body` (pipeline 1), at the entry contents `V` — class R -/

end Cert.Proof.Ker

end
-- ==== Proof.Ker.Region2.lean ====
/-
  The first interaction block's region: what its body leaves, and its obligation at every point.
-/
module

public import proofs.«01_k».proof.Proof.Ker.Base
public import Idealize.ShloMosaic.Lib.Pipeline.RegionsLoop
public import Idealize.ShloMosaic.Lib.Ring
public import Idealize.ShloMosaic.Lib.WordCmp

@[expose] public section

set_option maxRecDepth 16384

noncomputable section

namespace Cert.Proof.Ker

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

variable (V : (c : Dev nD) → (b : Ref sig .tc) → Buf (Elt F) ((c : Thread nD τ).loc b))

/-! ## The windows' blocks -/

/-- Window `w`'s block at point `t` of the array it reads or writes, as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) (HIx 1) ℕ UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) (HIx 1) ℕ UU ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) (HIx 1) ℕ UU ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) (HIx 1) ℕ UU ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) (HIx 1) ℕ UU ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) (HIx 1) ℕ UU ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) (HIx 1) ℕ UU ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) (HIx 1) ℕ UU ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) (HIx 1) ℕ UU ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in each output window's buffer -/

abbrev q2_idx : Rect S1x16x64 := Rect.unit (s := S1x16x64) ![0, 0, 0] S1x16x64.size inb_S1x16x64_S1x16x64_0_0_0
abbrev q2_tab : Rect S1x512x134 := Rect.unit (s := S1x512x134) ![0, 0, 0] S1x512x134.size inb_S1x512x134_S1x512x134_0_0_0
abbrev q2_w1 : Rect S25x128 := Rect.unit (s := S25x128) ![0, 0] S25x128.size inb_S25x128_S25x128_0_0
abbrev q2_sq : Rect S128x128 := Rect.unit (s := S128x128) ![0, 0] S128x128.size inb_S128x128_S128x128_0_0
abbrev q2_out : Rect S1x16x128 := Rect.unit (s := S1x16x128) ![0, 0, 0] S1x16x128.size inb_S1x16x128_S1x16x128_0_0_0
abbrev q2_pos (i : grid2.Coords) : Rect S1x512x3 := Rect.unit (s := S1x512x3) (k2_off1 i) S1x16x3.size (k2_off1_inb i)

/-- What the body leaves in the output window's staging buffer, from the input windows' blocks. -/
def out2_9 (i : grid2.Coords) (x0 : Vec F S1x512x3 .f32) (x1 : Vec F S1x16x64 .i32) (x2 : Vec F S1x16x128 .f32) (x3 : Vec F S1x512x134 .bf16) (x4 : Vec F S25x128 .bf16) (x5 : Vec F S128x128 .bf16) (x6 : Vec F S128x128 .f32) (x7 : Vec F S128x128 .f32) (x8 : Vec F S128x128 .f32) : Vec F S1x16x128 .f32 :=
  View.canon [⟨q2_out, k2_pay2 (k2_pay7 (k2_pay5 (View.ld x1 q2_idx) (View.ld x3 q2_tab)) (k2_pay6 (View.ld x1 q2_idx) (View.ld x3 q2_tab) (View.ld x0 (q2_pos i))) (View.ld x4 q2_w1) (View.ld x5 q2_sq) (View.ld x6 q2_sq)) (k2_pay8 (F := F)) (View.ld x7 q2_sq) (View.ld x2 q2_out)⟩]

/-- What the body leaves in the output window's staging buffer, from the input windows' blocks. -/
def out2_10 (i : grid2.Coords) (x0 : Vec F S1x512x3 .f32) (x1 : Vec F S1x16x64 .i32) (x2 : Vec F S1x16x128 .f32) (x3 : Vec F S1x512x134 .bf16) (x4 : Vec F S25x128 .bf16) (x5 : Vec F S128x128 .bf16) (x6 : Vec F S128x128 .f32) (x7 : Vec F S128x128 .f32) (x8 : Vec F S128x128 .f32) : Vec F S1x16x128 .f32 :=
  View.canon [⟨q2_out, k2_pay3 (k2_pay7 (k2_pay5 (View.ld x1 q2_idx) (View.ld x3 q2_tab)) (k2_pay6 (View.ld x1 q2_idx) (View.ld x3 q2_tab) (View.ld x0 (q2_pos i))) (View.ld x4 q2_w1) (View.ld x5 q2_sq) (View.ld x6 q2_sq)) (k2_pay8 (F := F)) (View.ld x7 q2_sq) (View.ld x2 q2_out) (View.ld x8 q2_sq)⟩]

theorem cover2 (p0 : Vec F S1x16x128 .f32) (y : S1x16x128.Idx) :
    ∃ pc ∈ ([⟨q2_out, p0⟩] : List (View.Piece (Elt F) S1x16x128 .f32)), y ∈ pc.1.set :=
  View.cover_of_tiled [⟨q2_out, p0⟩] S1x16x128.size (by rfl) y

/-! ## The body's triple -/

set_option maxHeartbeats 1000000 in
/-- The body, run on any whole staging buffers: inputs as they were, outputs at what the body computes of them. -/
theorem sound_kernel2 (c : Dev nD) (E : Set ℕ) (i : grid2.Coords) (arg2 : Memref sig .tc .vmem S1x512x3 .f32) (harg2 : arg2.IsWhole) (arg3 : Memref sig .tc .vmem S1x16x64 .i32) (harg3 : arg3.IsWhole) (arg4 : Memref sig .tc .vmem S1x16x128 .f32) (harg4 : arg4.IsWhole) (arg5 : Memref sig .tc .vmem S1x512x134 .bf16) (harg5 : arg5.IsWhole) (arg6 : Memref sig .tc .vmem S25x128 .bf16) (harg6 : arg6.IsWhole) (arg7 : Memref sig .tc .vmem S128x128 .bf16) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x16x128 .f32) (harg11 : arg11.IsWhole) (arg12 : Memref sig .tc .vmem S1x16x128 .f32) (harg12 : arg12.IsWhole)
    (x0 : Vec F S1x512x3 .f32) (x1 : Vec F S1x16x64 .i32) (x2 : Vec F S1x16x128 .f32) (x3 : Vec F S1x512x134 .bf16) (x4 : Vec F S25x128 .bf16) (x5 : Vec F S128x128 .bf16) (x6 : Vec F S128x128 .f32) (x7 : Vec F S128x128 .f32) (x8 : Vec F S128x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (out2_9 i x0 x1 x2 x3 x4 x5 x6 x7 x8) ∗ owns (c : Thread nD τ) arg12 fullShare (out2_10 i x0 x1 x2 x3 x4 x5 x6 x7 x8)) -∗ K ⟨⟩))
      ⊢ wp frame (wpE (defs₀ (F := F)) 𝒱₀ c none) E (cc2__block_body i arg2 harg2 arg3 harg3 arg4 harg4 arg5 harg5 arg6 harg6 arg7 harg7 arg8 harg8 arg9 harg9 arg10 harg10 arg11 harg11 arg12 harg12) K := by
  simp only [cc2__block_body_eq_skeleton]; unfold cc2__block_body_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover2 _)
  iexists _; isplitr
  swap; · iexact H10
  ipureintro
  exact View.read_writes_eq_canon _ _ _ (cover2 _)

/-! ## The pipeline's proof data -/

/-- The region's proof data: arrays as found, each input's buffer at its block, each output's at what the body computes. -/
def dat2 (c : Dev nD) : Dat τ (Elt F) (HIx 1) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (grid2.coords t) (iblk2 V c 0 t) (iblk2 V c 1 t) (iblk2 V c 2 t) (iblk2 V c 3 t) (iblk2 V c 4 t) (iblk2 V c 5 t) (iblk2 V c 6 t) (iblk2 V c 7 t) (iblk2 V c 8 t)
    | ⟨10, _⟩ => out2_10 (grid2.coords t) (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := ΨR spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (grid2.coords t) (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]
theorem after2_10 (c : Dev nD) (t : Fin cfg2.N) : (dat2 V c).after 10 t = out2_10 (grid2.coords t) (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## The body obligation, at a generic point -/

def bodyPre2 (c : Dev nD) (t : Fin cfg2.N) : sProp 𝕄 :=
  iprop((dat2 V c).Φ t.castSucc ∗ (dat2 V c).owesAt none t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

def bodyPost2 (c : Dev nD) (t : Fin cfg2.N) : sProp 𝕄 :=
  iprop((dat2 V c).Φ t.succ ∗ (dat2 V c).owesAt none t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t))

set_option maxHeartbeats 800000 in
/-- The body at any point of the grid. -/
theorem sound_body2 (c : Dev nD) (t : Fin cfg2.N) :
    bodyPre2 V c t ⊢ wp frame (wpE (defs₀ (F := F)) 𝒱₀ c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt none t.succ = (dat2 V c).owesAt none t.castSucc from rfl,
    after2_0, after2_1, after2_2, after2_3, after2_4, after2_5, after2_6, after2_7, after2_8, after2_9, after2_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel2 c Set.univ (grid2.coords t) _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row2 (t : Fin cfg2.N) :
    defs₀ (F := F) .tc cfg2.body (cfg2.bodyArgs t (cfg2.slots t)) = bodyAt2 t := by
  rfl

/-- The body meets its obligation at every point of the grid. -/
theorem body_obligation2 (c : Dev nD) : BodyObligation (dat2 (F := F) V c) (defs₀ (F := F)) 𝒱₀ none Set.univ := fun t => by
  rw [bigSep_W2, bigSep_W2, defs₀_row2]
  exact triple_restated (sound_body2 V c t) rfl .rfl fun _ => .rfl

end Cert.Proof.Ker

end
-- ==== Proof.Ker.Region3.lean ====
/-
  The second interaction block's region: what its body leaves, and its obligation at every point.
-/
module

public import proofs.«01_k».proof.Proof.Ker.Base
public import Idealize.ShloMosaic.Lib.Pipeline.RegionsLoop
public import Idealize.ShloMosaic.Lib.Ring
public import Idealize.ShloMosaic.Lib.WordCmp

@[expose] public section

set_option maxRecDepth 16384

noncomputable section

namespace Cert.Proof.Ker

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

variable (V : (c : Dev nD) → (b : Ref sig .tc) → Buf (Elt F) ((c : Thread nD τ).loc b))

/-! ## The windows' blocks -/

/-- Window `w`'s block at point `t` of the array it reads or writes, as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) (HIx 1) ℕ UU ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) (HIx 1) ℕ UU ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) (HIx 1) ℕ UU ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) (HIx 1) ℕ UU ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) (HIx 1) ℕ UU ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) (HIx 1) ℕ UU ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) (HIx 1) ℕ UU ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) (HIx 1) ℕ UU ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
theorem before3_8_of {c : Dev nD} (dat : Dat τ (Elt F) (HIx 1) ℕ UU ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-! ## What the body leaves in each output window's buffer -/

abbrev q3_idx : Rect S1x16x64 := Rect.unit (s := S1x16x64) ![0, 0, 0] S1x16x64.size inb_S1x16x64_S1x16x64_0_0_0
abbrev q3_tab : Rect S1x512x134 := Rect.unit (s := S1x512x134) ![0, 0, 0] S1x512x134.size inb_S1x512x134_S1x512x134_0_0_0
abbrev q3_w1 : Rect S25x128 := Rect.unit (s := S25x128) ![0, 0] S25x128.size inb_S25x128_S25x128_0_0
abbrev q3_sq : Rect S128x128 := Rect.unit (s := S128x128) ![0, 0] S128x128.size inb_S128x128_S128x128_0_0
abbrev q3_out : Rect S1x16x128 := Rect.unit (s := S1x16x128) ![0, 0, 0] S1x16x128.size inb_S1x16x128_S1x16x128_0_0_0
abbrev q3_pos (i : grid3.Coords) : Rect S1x512x3 := Rect.unit (s := S1x512x3) (k3_off1 i) S1x16x3.size (k3_off1_inb i)

/-- What the body leaves in the output window's staging buffer, from the input windows' blocks. -/
def out3_9 (i : grid3.Coords) (x0 : Vec F S1x512x3 .f32) (x1 : Vec F S1x16x64 .i32) (x2 : Vec F S1x16x128 .f32) (x3 : Vec F S1x512x134 .bf16) (x4 : Vec F S25x128 .bf16) (x5 : Vec F S128x128 .bf16) (x6 : Vec F S128x128 .f32) (x7 : Vec F S128x128 .f32) (x8 : Vec F S128x128 .f32) : Vec F S1x16x128 .f32 :=
  View.canon [⟨q3_out, k3_pay1 (k3_pay5 (k3_pay3 (View.ld x1 q3_idx) (View.ld x3 q3_tab)) (k3_pay4 (View.ld x1 q3_idx) (View.ld x3 q3_tab) (View.ld x0 (q3_pos i))) (View.ld x4 q3_w1) (View.ld x5 q3_sq) (View.ld x6 q3_sq)) (k3_pay6 (F := F)) (View.ld x7 q3_sq) (View.ld x2 q3_out)⟩]

theorem cover3 (p0 : Vec F S1x16x128 .f32) (y : S1x16x128.Idx) :
    ∃ pc ∈ ([⟨q3_out, p0⟩] : List (View.Piece (Elt F) S1x16x128 .f32)), y ∈ pc.1.set :=
  View.cover_of_tiled [⟨q3_out, p0⟩] S1x16x128.size (by rfl) y

/-! ## The body's triple -/

set_option maxHeartbeats 1000000 in
/-- The body, run on any whole staging buffers: inputs as they were, outputs at what the body computes of them. -/
theorem sound_kernel3 (c : Dev nD) (E : Set ℕ) (i : grid3.Coords) (arg2 : Memref sig .tc .vmem S1x512x3 .f32) (harg2 : arg2.IsWhole) (arg3 : Memref sig .tc .vmem S1x16x64 .i32) (harg3 : arg3.IsWhole) (arg4 : Memref sig .tc .vmem S1x16x128 .f32) (harg4 : arg4.IsWhole) (arg5 : Memref sig .tc .vmem S1x512x134 .bf16) (harg5 : arg5.IsWhole) (arg6 : Memref sig .tc .vmem S25x128 .bf16) (harg6 : arg6.IsWhole) (arg7 : Memref sig .tc .vmem S128x128 .bf16) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x16x128 .f32) (harg11 : arg11.IsWhole)
    (x0 : Vec F S1x512x3 .f32) (x1 : Vec F S1x16x64 .i32) (x2 : Vec F S1x16x128 .f32) (x3 : Vec F S1x512x134 .bf16) (x4 : Vec F S25x128 .bf16) (x5 : Vec F S128x128 .bf16) (x6 : Vec F S128x128 .f32) (x7 : Vec F S128x128 .f32) (x8 : Vec F S128x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (out3_9 i x0 x1 x2 x3 x4 x5 x6 x7 x8)) -∗ K ⟨⟩))
      ⊢ wp frame (wpE (defs₀ (F := F)) 𝒱₀ c none) E (cc3__block_body i arg2 harg2 arg3 harg3 arg4 harg4 arg5 harg5 arg6 harg6 arg7 harg7 arg8 harg8 arg9 harg9 arg10 harg10 arg11 harg11) K := by
  simp only [cc3__block_body_eq_skeleton]; unfold cc3__block_body_skel
  simp only [k3_part1_eq_skeleton, k3_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover3 _)

/-! ## The pipeline's proof data -/

/-- The region's proof data: arrays as found, each input's buffer at its block, each output's at what the body computes. -/
def dat3 (c : Dev nD) : Dat τ (Elt F) (HIx 1) ℕ UU ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (grid3.coords t) (iblk3 V c 0 t) (iblk3 V c 1 t) (iblk3 V c 2 t) (iblk3 V c 3 t) (iblk3 V c 4 t) (iblk3 V c 5 t) (iblk3 V c 6 t) (iblk3 V c 7 t) (iblk3 V c 8 t)
  Φ _ := ΨR spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = out3_9 (grid3.coords t) (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d

/-! ## The body obligation, at a generic point -/

def bodyPre3 (c : Dev nD) (t : Fin cfg3.N) : sProp 𝕄 :=
  iprop((dat3 V c).Φ t.castSucc ∗ (dat3 V c).owesAt none t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

def bodyPost3 (c : Dev nD) (t : Fin cfg3.N) : sProp 𝕄 :=
  iprop((dat3 V c).Φ t.succ ∗ (dat3 V c).owesAt none t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t))

set_option maxHeartbeats 800000 in
/-- The body at any point of the grid. -/
theorem sound_body3 (c : Dev nD) (t : Fin cfg3.N) :
    bodyPre3 V c t ⊢ wp frame (wpE (defs₀ (F := F)) 𝒱₀ c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).Φ t.succ = (dat3 V c).Φ t.castSucc from rfl,
    show (dat3 V c).owesAt none t.succ = (dat3 V c).owesAt none t.castSucc from rfl,
    after3_0, after3_1, after3_2, after3_3, after3_4, after3_5, after3_6, after3_7, after3_8, after3_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ (grid3.coords t) _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row3 (t : Fin cfg3.N) :
    defs₀ (F := F) .tc cfg3.body (cfg3.bodyArgs t (cfg3.slots t)) = bodyAt3 t := by
  rfl

/-- The body meets its obligation at every point of the grid. -/
theorem body_obligation3 (c : Dev nD) : BodyObligation (dat3 (F := F) V c) (defs₀ (F := F)) 𝒱₀ none Set.univ := fun t => by
  rw [bigSep_W3, bigSep_W3, defs₀_row3]
  exact triple_restated (sound_body3 V c t) rfl .rfl fun _ => .rfl

end Cert.Proof.Ker

end
-- ==== Proof.Ker.Fold.lean ====
/-
  The host's own operations between the calls, and the contents of every buffer at each boundary of the program after
  the embedding call: a fold over the three regions from the contents the call leaves.
-/
module

public import proofs.«01_k».proof.Proof.Ker.Region1
public import proofs.«01_k».proof.Proof.Ker.Region2
public import proofs.«01_k».proof.Proof.Ker.Region3

@[expose] public section

set_option maxRecDepth 16384

noncomputable section

namespace Cert.Proof.Ker

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

/-- The program's argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15]

/-! ## The host's operations -/

/-- The host's operations before the embedding call. -/
abbrev hostOps0 : List (HloOp τ sig (Elt F)) :=
  [ StableHlo.reshape main_arg0 main_v0 (rfl : (.i32 : EltTy) = .i32) shapeCasts_S8x512_S4096 ]
theorem hostOps0_sub : (hostOps0 : List (HloOp τ sig (Elt F))).Forall fun op => op.bufs ⊆ StableHlo.tcRefs τ sig :=
  StableHlo.reshape_bufs_sub ..
theorem hostOps0_fresh : (hostOps0 : List (HloOp τ sig (Elt F))).Forall fun op => op.fresh = ∅ := by
  simp only [List.Forall]; repeat' constructor
/-- What each of them writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- None of them writes an argument. -/
theorem hostOps0_args : ∀ a ∈ argRefs, a ∉ hostOps0_W := ListAll.forall_mem_of_all_decide (by decide +kernel)

/-- The host's operations before region 1. -/
abbrev hostOps1 : List (HloOp τ sig (Elt F)) :=
  [ StableHlo.reshape main_v1 main_v2 (rfl : (.f32 : EltTy) = .f32) shapeCasts_S4096x128_S8x512x128,
    StableHlo.unary main_arg11 main_v3 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v3 main_v4 (rfl : (.f32 : EltTy) = .f32) shapeCasts_S1x128x128_S128x128 ]
theorem hostOps1_sub : (hostOps1 : List (HloOp τ sig (Elt F))).Forall fun op => op.bufs ⊆ StableHlo.tcRefs τ sig :=
  ⟨StableHlo.reshape_bufs_sub .., StableHlo.unary_bufs_sub .., StableHlo.reshape_bufs_sub ..⟩
theorem hostOps1_fresh : (hostOps1 : List (HloOp τ sig (Elt F))).Forall fun op => op.fresh = ∅ := by
  simp only [List.Forall]; repeat' constructor
/-- What each of them writes, in order. -/
abbrev hostOps1_W : List (Ref sig .tc) := [main_v2, main_v3, main_v4]
theorem hostOps1_writes : (hostOps1 : List (HloOp τ sig (Elt F))).Forall fun op => op.writes ⊆ (hostOps1_W.map (Proc.devRef (τ := τ) .tc)).toFinset :=
  StableHlo.forall_writes_sub_of_map rfl
/-- None of them writes an argument. -/
theorem hostOps1_args : ∀ a ∈ argRefs, a ∉ hostOps1_W := ListAll.forall_mem_of_all_decide (by decide +kernel)

/-- The host's operations before region 2. -/
abbrev hostOps2 : List (HloOp τ sig (Elt F)) :=
  [ StableHlo.reshape main_v5 main_v6 (rfl : (.f32 : EltTy) = .f32) shapeCasts_S4096x128_S8x512x128,
    StableHlo.unary main_arg1 main_v7 ((truncf .bf16 · bitsLt_bf16_f32) : (⟨S8x512x3, .f32⟩ : BufTy).Contents (Elt F) → (⟨S8x512x3, .bf16⟩ : BufTy).Contents (Elt F)),
    StableHlo.unary main_v7 main_v8 ((extf .f32 · bitsLt_bf16_f32) : (⟨S8x512x3, .bf16⟩ : BufTy).Contents (Elt F) → (⟨S8x512x3, .f32⟩ : BufTy).Contents (Elt F)),
    StableHlo.binary main_arg1 main_v8 main_v9 (subf : (⟨S8x512x3, .f32⟩ : BufTy).Contents (Elt F) → (⟨S8x512x3, .f32⟩ : BufTy).Contents (Elt F) → (⟨S8x512x3, .f32⟩ : BufTy).Contents (Elt F)),
    StableHlo.unary main_v9 main_v10 ((truncf .bf16 · bitsLt_bf16_f32) : (⟨S8x512x3, .f32⟩ : BufTy).Contents (Elt F) → (⟨S8x512x3, .bf16⟩ : BufTy).Contents (Elt F)),
    StableHlo.unary main_arg11 main_v11 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v11 main_v12 (rfl : (.f32 : EltTy) = .f32) shapeCasts_S1x128x128_S128x128,
    StableHlo.unary main_v6 main_v13 ((truncf .bf16 · bitsLt_bf16_f32) : (⟨S8x512x128, .f32⟩ : BufTy).Contents (Elt F) → (⟨S8x512x128, .bf16⟩ : BufTy).Contents (Elt F)),
    StableHlo.nary ![main_v13, main_v7, main_v10] main_v14 (fun u => (concatenate S8x512x134 2 [⟨S8x512x128, (u 0 : (⟨S8x512x128, .bf16⟩ : BufTy).Contents (Elt F))⟩, ⟨S8x512x3, (u 1 : (⟨S8x512x3, .bf16⟩ : BufTy).Contents (Elt F))⟩, ⟨S8x512x3, (u 2 : (⟨S8x512x3, .bf16⟩ : BufTy).Contents (Elt F))⟩] concatenates_S8x512x128_S8x512x3_S8x512x3_S8x512x134_d2 : (⟨S8x512x134, .bf16⟩ : BufTy).Contents (Elt F))),
    StableHlo.unary main_arg7 main_v15 ((extractStridedSlice S1x25x128 ![0, 0, 0] · slices_S2x25x128_S1x25x128_0_0_0) : (⟨S2x25x128, .f32⟩ : BufTy).Contents (Elt F) → (⟨S1x25x128, .f32⟩ : BufTy).Contents (Elt F)),
    StableHlo.reshape main_v15 main_v16 (rfl : (.f32 : EltTy) = .f32) shapeCasts_S1x25x128_S25x128,
    StableHlo.unary main_v16 main_v17 ((truncf .bf16 · bitsLt_bf16_f32) : (⟨S25x128, .f32⟩ : BufTy).Contents (Elt F) → (⟨S25x128, .bf16⟩ : BufTy).Contents (Elt F)),
    StableHlo.unary main_arg9 main_v18 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v18 main_v19 (rfl : (.f32 : EltTy) = .f32) shapeCasts_S1x128x128_S128x128,
    StableHlo.unary main_v19 main_v20 ((truncf .bf16 · bitsLt_bf16_f32) : (⟨S128x128, .f32⟩ : BufTy).Contents (Elt F) → (⟨S128x128, .bf16⟩ : BufTy).Contents (Elt F)),
    StableHlo.unary main_arg12 main_v21 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v21 main_v22 (rfl : (.f32 : EltTy) = .f32) shapeCasts_S1x128x128_S128x128,
    StableHlo.unary main_arg14 main_v23 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v23 main_v24 (rfl : (.f32 : EltTy) = .f32) shapeCasts_S1x128x128_S128x128 ]
theorem hostOps2_sub : (hostOps2 : List (HloOp τ sig (Elt F))).Forall fun op => op.bufs ⊆ StableHlo.tcRefs τ sig :=
  ⟨StableHlo.reshape_bufs_sub .., StableHlo.unary_bufs_sub .., StableHlo.unary_bufs_sub .., StableHlo.binary_bufs_sub .., StableHlo.unary_bufs_sub .., StableHlo.unary_bufs_sub .., StableHlo.reshape_bufs_sub .., StableHlo.unary_bufs_sub .., StableHlo.nary_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.reshape_bufs_sub .., StableHlo.unary_bufs_sub .., StableHlo.reshape_bufs_sub ..⟩
theorem hostOps2_fresh : (hostOps2 : List (HloOp τ sig (Elt F))).Forall fun op => op.fresh = ∅ := by
  simp only [List.Forall]; repeat' constructor
/-- What each of them writes, in order. -/
abbrev hostOps2_W : List (Ref sig .tc) := [main_v6, main_v7, main_v8, main_v9, main_v10, main_v11, main_v12, main_v13, main_v14, main_v15, main_v16, main_v17, main_v18, main_v19, main_v20, main_v21, main_v22, main_v23, main_v24]
theorem hostOps2_writes : (hostOps2 : List (HloOp τ sig (Elt F))).Forall fun op => op.writes ⊆ (hostOps2_W.map (Proc.devRef (τ := τ) .tc)).toFinset :=
  StableHlo.forall_writes_sub_of_map rfl
/-- None of them writes an argument. -/
theorem hostOps2_args : ∀ a ∈ argRefs, a ∉ hostOps2_W := ListAll.forall_mem_of_all_decide (by decide +kernel)

/-- The host's operations before region 3. -/
abbrev hostOps3 : List (HloOp τ sig (Elt F)) :=
  [ StableHlo.unary main_arg11 main_v26 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v26 main_v27 (rfl : (.f32 : EltTy) = .f32) shapeCasts_S1x128x128_S128x128,
    StableHlo.unary main_v25_1 main_v28 ((truncf .bf16 · bitsLt_bf16_f32) : (⟨S8x512x128, .f32⟩ : BufTy).Contents (Elt F) → (⟨S8x512x128, .bf16⟩ : BufTy).Contents (Elt F)),
    StableHlo.nary ![main_v28, main_v7, main_v10] main_v29 (fun u => (concatenate S8x512x134 2 [⟨S8x512x128, (u 0 : (⟨S8x512x128, .bf16⟩ : BufTy).Contents (Elt F))⟩, ⟨S8x512x3, (u 1 : (⟨S8x512x3, .bf16⟩ : BufTy).Contents (Elt F))⟩, ⟨S8x512x3, (u 2 : (⟨S8x512x3, .bf16⟩ : BufTy).Contents (Elt F))⟩] concatenates_S8x512x128_S8x512x3_S8x512x3_S8x512x134_d2 : (⟨S8x512x134, .bf16⟩ : BufTy).Contents (Elt F))),
    StableHlo.unary main_arg7 main_v30 ((extractStridedSlice S1x25x128 ![1, 0, 0] · slices_S2x25x128_S1x25x128_1_0_0) : (⟨S2x25x128, .f32⟩ : BufTy).Contents (Elt F) → (⟨S1x25x128, .f32⟩ : BufTy).Contents (Elt F)),
    StableHlo.reshape main_v30 main_v31 (rfl : (.f32 : EltTy) = .f32) shapeCasts_S1x25x128_S25x128,
    StableHlo.unary main_v31 main_v32 ((truncf .bf16 · bitsLt_bf16_f32) : (⟨S25x128, .f32⟩ : BufTy).Contents (Elt F) → (⟨S25x128, .bf16⟩ : BufTy).Contents (Elt F)),
    StableHlo.unary main_arg9 main_v33 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v33 main_v34 (rfl : (.f32 : EltTy) = .f32) shapeCasts_S1x128x128_S128x128,
    StableHlo.unary main_v34 main_v35 ((truncf .bf16 · bitsLt_bf16_f32) : (⟨S128x128, .f32⟩ : BufTy).Contents (Elt F) → (⟨S128x128, .bf16⟩ : BufTy).Contents (Elt F)),
    StableHlo.unary main_arg12 main_v36 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v36 main_v37 (rfl : (.f32 : EltTy) = .f32) shapeCasts_S1x128x128_S128x128,
    StableHlo.unary main_arg14 main_v38 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v38 main_v39 (rfl : (.f32 : EltTy) = .f32) shapeCasts_S1x128x128_S128x128 ]
theorem hostOps3_sub : (hostOps3 : List (HloOp τ sig (Elt F))).Forall fun op => op.bufs ⊆ StableHlo.tcRefs τ sig :=
  ⟨StableHlo.unary_bufs_sub .., StableHlo.reshape_bufs_sub .., StableHlo.unary_bufs_sub .., StableHlo.nary_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.reshape_bufs_sub .., StableHlo.unary_bufs_sub .., StableHlo.reshape_bufs_sub ..⟩
theorem hostOps3_fresh : (hostOps3 : List (HloOp τ sig (Elt F))).Forall fun op => op.fresh = ∅ := by
  simp only [List.Forall]; repeat' constructor
/-- What each of them writes, in order. -/
abbrev hostOps3_W : List (Ref sig .tc) := [main_v26, main_v27, main_v28, main_v29, main_v30, main_v31, main_v32, main_v33, main_v34, main_v35, main_v36, main_v37, main_v38, main_v39]
theorem hostOps3_writes : (hostOps3 : List (HloOp τ sig (Elt F))).Forall fun op => op.writes ⊆ (hostOps3_W.map (Proc.devRef (τ := τ) .tc)).toFinset :=
  StableHlo.forall_writes_sub_of_map rfl
/-- None of them writes an argument. -/
theorem hostOps3_args : ∀ a ∈ argRefs, a ∉ hostOps3_W := ListAll.forall_mem_of_all_decide (by decide +kernel)

/-! ## The contents at each boundary -/

variable (X : Dev nD → Valuation τ sig (Elt F))

/-- Entering region 1. -/
abbrev A1 : Dev nD → Valuation τ sig (Elt F) := fun c => StableHlo.after hostOps1 (X c)
theorem A1_of (c : Dev nD) (r : Ref sig .tc) (h : r ∉ hostOps1_W) : A1 X c (Proc.devRef .tc r) = X c (Proc.devRef .tc r) :=
  StableHlo.after_of_writes_sub hostOps1 _ hostOps1_writes h
/-- The same at the TensorCore's references. -/
abbrev VA1 : (c : Dev nD) → (b : Ref sig .tc) → Buf (Elt F) ((c : Thread nD τ).loc b) := fun c b => A1 X c b
/-- Leaving region 1: its arrays at what the pipeline leaves, every other buffer as entered. -/
def B1 (c : Dev nD) : Valuation τ sig (Elt F) :=
  Pipeline.withArrays spec1 c (A1 X c) fun w => (dat1 (VA1 X) c).arrAt w cfg1.N
theorem B1_arr (c : Dev nD) (w : Fin cfg1.W) :
    B1 X c (Proc.devRef .tc (Pipeline.arrRef spec1 w)) = (dat1 (VA1 X) c).arrAt w cfg1.N := by
  unfold B1; exact Pipeline.withArrays_arr spec1 launch1.win.arr_inj c _ _ w
theorem B1_of_ne (c : Dev nD) (b : Ref sig .tc) (hb : ∀ w, Pipeline.arrRef spec1 w ≠ b) :
    B1 X c (Proc.devRef .tc b) = A1 X c (Proc.devRef .tc b) := by
  unfold B1; exact Pipeline.withArrays_of_ne spec1 c _ _ b hb
/-- A reference that is none of region 1's output arrays keeps its contents across it. -/
theorem B1_of (c : Dev nD) (r : Ref sig .tc) (h : ∀ w : Fin cfg1.W, Pipeline.arrRef spec1 w = r → (cfg1.win w).isOut = false) :
    B1 X c (Proc.devRef .tc r) = A1 X c (Proc.devRef .tc r) := by
  by_cases hw : ∃ w : Fin cfg1.W, Pipeline.arrRef spec1 w = r
  · obtain ⟨w, rfl⟩ := hw
    exact (B1_arr X c w).trans (((dat1 (VA1 X) c).arrAt_in w (h w rfl) _).trans (A_eq1 (VA1 X) c w))
  · exact B1_of_ne X c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem A1_args (c : Dev nD) : ∀ a ∈ argRefs, A1 X c (Proc.devRef .tc a) = X c (Proc.devRef .tc a) :=
  fun a ha => A1_of X c a (hostOps1_args a ha)
theorem B1_args (c : Dev nD) : ∀ a ∈ argRefs, B1 X c (Proc.devRef .tc a) = X c (Proc.devRef .tc a) :=
  fun a ha => (B1_of X c a (argsIn1 a ha)).trans (A1_args X c a ha)
abbrev VB1 : (c : Dev nD) → (b : Ref sig .tc) → Buf (Elt F) ((c : Thread nD τ).loc b) := fun c b => B1 X c b
theorem hF1 (c : Dev nD) (w : Fin cfg1.W) : (dat1 (VA1 X) c).arrAt w cfg1.N = VB1 X c (Pipeline.arrRef spec1 w) :=
  (B1_arr X c w).symm
theorem hrest1 (c : Dev nD) : ∀ b, b ∉ Finset.univ.image (Pipeline.arrRef spec1) → VB1 X c b = VA1 X c b :=
  fun b hb => B1_of_ne X c b fun w e => hb (Finset.mem_image.mpr ⟨w, Finset.mem_univ _, e⟩)

/-- Entering region 2. -/
abbrev A2 : Dev nD → Valuation τ sig (Elt F) := fun c => StableHlo.after hostOps2 (B1 X c)
theorem A2_of (c : Dev nD) (r : Ref sig .tc) (h : r ∉ hostOps2_W) : A2 X c (Proc.devRef .tc r) = B1 X c (Proc.devRef .tc r) :=
  StableHlo.after_of_writes_sub hostOps2 _ hostOps2_writes h
/-- The same at the TensorCore's references. -/
abbrev VA2 : (c : Dev nD) → (b : Ref sig .tc) → Buf (Elt F) ((c : Thread nD τ).loc b) := fun c b => A2 X c b
/-- Leaving region 2: its arrays at what the pipeline leaves, every other buffer as entered. -/
def B2 (c : Dev nD) : Valuation τ sig (Elt F) :=
  Pipeline.withArrays spec2 c (A2 X c) fun w => (dat2 (VA2 X) c).arrAt w cfg2.N
theorem B2_arr (c : Dev nD) (w : Fin cfg2.W) :
    B2 X c (Proc.devRef .tc (Pipeline.arrRef spec2 w)) = (dat2 (VA2 X) c).arrAt w cfg2.N := by
  unfold B2; exact Pipeline.withArrays_arr spec2 launch2.win.arr_inj c _ _ w
theorem B2_of_ne (c : Dev nD) (b : Ref sig .tc) (hb : ∀ w, Pipeline.arrRef spec2 w ≠ b) :
    B2 X c (Proc.devRef .tc b) = A2 X c (Proc.devRef .tc b) := by
  unfold B2; exact Pipeline.withArrays_of_ne spec2 c _ _ b hb
/-- A reference that is none of region 2's output arrays keeps its contents across it. -/
theorem B2_of (c : Dev nD) (r : Ref sig .tc) (h : ∀ w : Fin cfg2.W, Pipeline.arrRef spec2 w = r → (cfg2.win w).isOut = false) :
    B2 X c (Proc.devRef .tc r) = A2 X c (Proc.devRef .tc r) := by
  by_cases hw : ∃ w : Fin cfg2.W, Pipeline.arrRef spec2 w = r
  · obtain ⟨w, rfl⟩ := hw
    exact (B2_arr X c w).trans (((dat2 (VA2 X) c).arrAt_in w (h w rfl) _).trans (A_eq2 (VA2 X) c w))
  · exact B2_of_ne X c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem A2_args (c : Dev nD) : ∀ a ∈ argRefs, A2 X c (Proc.devRef .tc a) = X c (Proc.devRef .tc a) :=
  fun a ha => (A2_of X c a (hostOps2_args a ha)).trans (B1_args X c a ha)
theorem B2_args (c : Dev nD) : ∀ a ∈ argRefs, B2 X c (Proc.devRef .tc a) = X c (Proc.devRef .tc a) :=
  fun a ha => (B2_of X c a (argsIn2 a ha)).trans (A2_args X c a ha)
abbrev VB2 : (c : Dev nD) → (b : Ref sig .tc) → Buf (Elt F) ((c : Thread nD τ).loc b) := fun c b => B2 X c b
theorem hF2 (c : Dev nD) (w : Fin cfg2.W) : (dat2 (VA2 X) c).arrAt w cfg2.N = VB2 X c (Pipeline.arrRef spec2 w) :=
  (B2_arr X c w).symm
theorem hrest2 (c : Dev nD) : ∀ b, b ∉ Finset.univ.image (Pipeline.arrRef spec2) → VB2 X c b = VA2 X c b :=
  fun b hb => B2_of_ne X c b fun w e => hb (Finset.mem_image.mpr ⟨w, Finset.mem_univ _, e⟩)

/-- Entering region 3. -/
abbrev A3 : Dev nD → Valuation τ sig (Elt F) := fun c => StableHlo.after hostOps3 (B2 X c)
theorem A3_of (c : Dev nD) (r : Ref sig .tc) (h : r ∉ hostOps3_W) : A3 X c (Proc.devRef .tc r) = B2 X c (Proc.devRef .tc r) :=
  StableHlo.after_of_writes_sub hostOps3 _ hostOps3_writes h
/-- The same at the TensorCore's references. -/
abbrev VA3 : (c : Dev nD) → (b : Ref sig .tc) → Buf (Elt F) ((c : Thread nD τ).loc b) := fun c b => A3 X c b
/-- Leaving region 3: its arrays at what the pipeline leaves, every other buffer as entered. -/
def B3 (c : Dev nD) : Valuation τ sig (Elt F) :=
  Pipeline.withArrays spec3 c (A3 X c) fun w => (dat3 (VA3 X) c).arrAt w cfg3.N
theorem B3_arr (c : Dev nD) (w : Fin cfg3.W) :
    B3 X c (Proc.devRef .tc (Pipeline.arrRef spec3 w)) = (dat3 (VA3 X) c).arrAt w cfg3.N := by
  unfold B3; exact Pipeline.withArrays_arr spec3 launch3.win.arr_inj c _ _ w
theorem B3_of_ne (c : Dev nD) (b : Ref sig .tc) (hb : ∀ w, Pipeline.arrRef spec3 w ≠ b) :
    B3 X c (Proc.devRef .tc b) = A3 X c (Proc.devRef .tc b) := by
  unfold B3; exact Pipeline.withArrays_of_ne spec3 c _ _ b hb
/-- A reference that is none of region 3's output arrays keeps its contents across it. -/
theorem B3_of (c : Dev nD) (r : Ref sig .tc) (h : ∀ w : Fin cfg3.W, Pipeline.arrRef spec3 w = r → (cfg3.win w).isOut = false) :
    B3 X c (Proc.devRef .tc r) = A3 X c (Proc.devRef .tc r) := by
  by_cases hw : ∃ w : Fin cfg3.W, Pipeline.arrRef spec3 w = r
  · obtain ⟨w, rfl⟩ := hw
    exact (B3_arr X c w).trans (((dat3 (VA3 X) c).arrAt_in w (h w rfl) _).trans (A_eq3 (VA3 X) c w))
  · exact B3_of_ne X c r fun w e => hw ⟨w, e⟩
theorem argsIn3 : ∀ a ∈ argRefs, ∀ w : Fin cfg3.W, Pipeline.arrRef spec3 w = a → (cfg3.win w).isOut = false :=
  ListAll.forall_mem_of_all_decide (by decide +kernel)
theorem A3_args (c : Dev nD) : ∀ a ∈ argRefs, A3 X c (Proc.devRef .tc a) = X c (Proc.devRef .tc a) :=
  fun a ha => (A3_of X c a (hostOps3_args a ha)).trans (B2_args X c a ha)
theorem B3_args (c : Dev nD) : ∀ a ∈ argRefs, B3 X c (Proc.devRef .tc a) = X c (Proc.devRef .tc a) :=
  fun a ha => (B3_of X c a (argsIn3 a ha)).trans (A3_args X c a ha)
abbrev VB3 : (c : Dev nD) → (b : Ref sig .tc) → Buf (Elt F) ((c : Thread nD τ).loc b) := fun c b => B3 X c b
theorem hF3 (c : Dev nD) (w : Fin cfg3.W) : (dat3 (VA3 X) c).arrAt w cfg3.N = VB3 X c (Pipeline.arrRef spec3 w) :=
  (B3_arr X c w).symm
theorem hrest3 (c : Dev nD) : ∀ b, b ∉ Finset.univ.image (Pipeline.arrRef spec3) → VB3 X c b = VA3 X c b :=
  fun b hb => B3_of_ne X c b fun w e => hb (Finset.mem_image.mpr ⟨w, Finset.mem_univ _, e⟩)

end Cert.Proof.Ker
-- ==== Proof.Ker.Segs.lean ====
/-
  The program after the embedding call as a list of segments: a stretch of the host's operations before each of the
  three regions, each region from the contents it is entered with to the contents it leaves.
-/
module

public import proofs.«01_k».proof.Proof.Ker.Fold

@[expose] public section

set_option maxRecDepth 16384

noncomputable section

namespace Cert.Proof.Ker

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

variable (X : Dev nD → Valuation τ sig (Elt F))

abbrev adm : (p : Fin 3) → (pcfgs (F := F) p).Adm := fun p => (cfgs p).toPCfg_adm
/-- Every pipeline's proof data, each at its region's entry contents. -/
def pdats : (p : Fin 3) → (c : Dev nD) → Dat τ (Elt F) (HIx 1) ℕ UU ℕ (Pipeline.pin (pcfgs (F := F)) adm p) c
  | ⟨0, _⟩ => fun c => dat1 (VA1 X) c
  | ⟨1, _⟩ => fun c => dat2 (VA2 X) c
  | ⟨2, _⟩ => fun c => dat3 (VA3 X) c
abbrev L : GSem nD τ sig → Finset (HIx 1) := (K (F := F)).L
abbrev lv : GSem nD τ sig → HIx 1 → ℕ := (K (F := F)).lev
/-- What rides beside the buffers through every segment: the generator register, and that nothing is owed. -/
abbrev R (c : Dev nD) : sProp 𝕄 := iprop((∃ r, prngReg c r) ∗ ∃ W, owes (c : Thread nD τ) (0 : CellTallies nD τ sig (HIx 1)) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UU) (pcfgs (F := F)) defs₀ 𝒱₀ (L (F := F)) (lv (F := F)) :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Region 1 over the thread state: entered at `A1`, left at `B1`. -/
def reg1 : Pipeline.RegionSeg (pcfgs (F := F)) adm (pdats X) (none : HIx 1) defs₀ 𝒱₀ (L (F := F)) (lv (F := F)) 0 where
  win := launch1.win.to₀
  block_pos := launch1.block_pos
  stage_whole := launch1.stage_whole
  K := PEmpty
  osem k := k.elim
  ho := Pipeline.OwnSemFacts.none _
  hbody c := (body_obligation1 (VA1 X) c).loose
  hwaits := Pipeline.hwaits_of_owed_zero _ _ _ _ (L (F := F)) (lv (F := F)) 0 fun _ _ => rfl
  pre c := iprop(StableHlo.held (c : Thread nD τ) (Pipeline.ucRefs τ sig) (A1 X c) ∗ R c)
  post c := iprop(StableHlo.held (c : Thread nD τ) (Pipeline.ucRefs τ sig) (B1 X c) ∗ R c)
  X c := iprop(∃ r, prngReg c r)
  Y c := iprop(∃ r, prngReg c r)
  Z c := Pipeline.unscopedRest (Ix := HIx 1) (Name := ℕ) (U := UU) (Lvl := ℕ) spec1 c (VA1 X c)
  hentry c := by
    rw [Pipeline.ownSems0_none]
    have hsplit := Pipeline.arrays_of_unscopedBufs (p := 0) (pcfgs (F := F)) adm (pdats X) launch1.win launch1.arr_whole c
      ((pdats X 0 c).share_full fun _ => rfl) (VA1 X c) (A_eq1 (VA1 X) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats X 0 c).Φ 0 = ΨR spec1 c from rfl]; unfold ΨR
    iintro ⟨Hp, -, Hr⟩
    isplitl [Hr]; · iexact Hr
    iexact Hp
  hout c := by
    rw [Pipeline.ownSems0_none, show (pdats X 0 c).Φ (Fin.last _) = ΨR spec1 c from rfl]; unfold ΨR
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch1.win launch1.arr_whole c (pdats X) ((pdats X 0 c).share_full fun _ => rfl)
      (VA1 X c) (VB1 X c) ((pdats X 0 c).arrAt · cfg1.N) (hF1 X c) (hrest1 X c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered at `A2`, left at `B2`. -/
def reg2 : Pipeline.RegionSeg (pcfgs (F := F)) adm (pdats X) (none : HIx 1) defs₀ 𝒱₀ (L (F := F)) (lv (F := F)) 1 where
  win := launch2.win.to₀
  block_pos := launch2.block_pos
  stage_whole := launch2.stage_whole
  K := PEmpty
  osem k := k.elim
  ho := Pipeline.OwnSemFacts.none _
  hbody c := (body_obligation2 (VA2 X) c).loose
  hwaits := Pipeline.hwaits_of_owed_zero _ _ _ _ (L (F := F)) (lv (F := F)) 1 fun _ _ => rfl
  pre c := iprop(StableHlo.held (c : Thread nD τ) (Pipeline.ucRefs τ sig) (A2 X c) ∗ R c)
  post c := iprop(StableHlo.held (c : Thread nD τ) (Pipeline.ucRefs τ sig) (B2 X c) ∗ R c)
  X c := iprop(∃ r, prngReg c r)
  Y c := iprop(∃ r, prngReg c r)
  Z c := Pipeline.unscopedRest (Ix := HIx 1) (Name := ℕ) (U := UU) (Lvl := ℕ) spec2 c (VA2 X c)
  hentry c := by
    rw [Pipeline.ownSems0_none]
    have hsplit := Pipeline.arrays_of_unscopedBufs (p := 1) (pcfgs (F := F)) adm (pdats X) launch2.win launch2.arr_whole c
      ((pdats X 1 c).share_full fun _ => rfl) (VA2 X c) (A_eq2 (VA2 X) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats X 1 c).Φ 0 = ΨR spec2 c from rfl]; unfold ΨR
    iintro ⟨Hp, -, Hr⟩
    isplitl [Hr]; · iexact Hr
    iexact Hp
  hout c := by
    rw [Pipeline.ownSems0_none, show (pdats X 1 c).Φ (Fin.last _) = ΨR spec2 c from rfl]; unfold ΨR
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats X) ((pdats X 1 c).share_full fun _ => rfl)
      (VA2 X c) (VB2 X c) ((pdats X 1 c).arrAt · cfg2.N) (hF2 X c) (hrest2 X c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered at `A3`, left at `B3`. -/
def reg3 : Pipeline.RegionSeg (pcfgs (F := F)) adm (pdats X) (none : HIx 1) defs₀ 𝒱₀ (L (F := F)) (lv (F := F)) 2 where
  win := launch3.win.to₀
  block_pos := launch3.block_pos
  stage_whole := launch3.stage_whole
  K := PEmpty
  osem k := k.elim
  ho := Pipeline.OwnSemFacts.none _
  hbody c := (body_obligation3 (VA3 X) c).loose
  hwaits := Pipeline.hwaits_of_owed_zero _ _ _ _ (L (F := F)) (lv (F := F)) 2 fun _ _ => rfl
  pre c := iprop(StableHlo.held (c : Thread nD τ) (Pipeline.ucRefs τ sig) (A3 X c) ∗ R c)
  post c := iprop(StableHlo.held (c : Thread nD τ) (Pipeline.ucRefs τ sig) (B3 X c) ∗ R c)
  X c := iprop(∃ r, prngReg c r)
  Y c := iprop(∃ r, prngReg c r)
  Z c := Pipeline.unscopedRest (Ix := HIx 1) (Name := ℕ) (U := UU) (Lvl := ℕ) spec3 c (VA3 X c)
  hentry c := by
    rw [Pipeline.ownSems0_none]
    have hsplit := Pipeline.arrays_of_unscopedBufs (p := 2) (pcfgs (F := F)) adm (pdats X) launch3.win launch3.arr_whole c
      ((pdats X 2 c).share_full fun _ => rfl) (VA3 X c) (A_eq3 (VA3 X) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats X 2 c).Φ 0 = ΨR spec3 c from rfl]; unfold ΨR
    iintro ⟨Hp, -, Hr⟩
    isplitl [Hr]; · iexact Hr
    iexact Hp
  hout c := by
    rw [Pipeline.ownSems0_none, show (pdats X 2 c).Φ (Fin.last _) = ΨR spec3 c from rfl]; unfold ΨR
    iintro ⟨Hr, Hp⟩
    isplitl [Hp]; · iexact Hp
    isplitr; · iempintro
    iexact Hr
  hexit c := by
    have hjoin := Pipeline.unscopedBufs_of_arrays (p := 2) (pcfgs (F := F)) adm (Ix := HIx 1) (Name := ℕ) (U := UU) (Lvl := ℕ)
      launch3.win launch3.arr_whole c (pdats X) ((pdats X 2 c).share_full fun _ => rfl)
      (VA3 X c) (VB3 X c) ((pdats X 2 c).arrAt · cfg3.N) (hF3 X c) (hrest3 X c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The segments after the embedding call, in order. -/
abbrev segs : List (Pipeline.Seg (pcfgs (F := F)) adm (pdats X) (none : HIx 1) defs₀ 𝒱₀ (L (F := F)) (lv (F := F))) :=
  [ .host (hseg hostOps1 hostOps1_sub hostOps1_fresh X),
    .region (reg1 X),
    .host (hseg hostOps2 hostOps2_sub hostOps2_fresh (B1 X)),
    .region (reg2 X),
    .host (hseg hostOps3 hostOps3_sub hostOps3_fresh (B2 X)),
    .region (reg3 X) ]

/-- The program: the host's first operation, the embedding call, then the segments. -/
theorem main_eq (d : Dev nD) : main (F := F) d
    = ((StableHlo.seq (hostOps0 (F := F)) : Prog (TpuEff nD τ sig (Elt F) (SparseCore.Sig (ΛP (F := F)) 1) .tc) PUnit)
        >>= fun _ => (K (F := F)).run d 0 >>= fun _ => SparseCore.liftProg (Pipeline.Seg.run (segs X))) := by
  rfl

end Cert.Proof.Ker
-- ==== Proof.Ker.Run.lean ====
/-
  The program's run: the launch's ghost state dealt, the TensorCore's program from the launch's memory to the return, and
  the final state read back.
-/
module

public import proofs.«01_k».proof.Proof.Ker.Tile
public import proofs.«01_k».proof.Proof.Ker.Segs

@[expose] public section

set_option maxRecDepth 16384

noncomputable section

namespace Cert.Proof.Ker

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

open Idealize.ShloMosaic.ValueIdx

/-! ## The thirty-two workers' parts of the call's three buffers -/

theorem zSet_eq (w : Fin 32) : zSet w = (zrow w).set := by
  show ((View.whole (main_v0_scv : Ref sig .scVector)).slice (zrow w)).set = _
  rw [View.set_slice]; exact Finset.map_refl
theorem xSet_eq (w : Fin 32) : xSet w = (xrow w).set := by
  show ((View.whole (main_v1_scv : Ref sig .scVector)).slice (xrow w)).set = _
  rw [View.set_slice]; exact Finset.map_refl
theorem zrows_disjoint : ∀ i ∈ (Finset.univ : Finset (Fin 32)), ∀ j ∈ (Finset.univ : Finset (Fin 32)), i ≠ j → Disjoint (zSet i) (zSet j) :=
  fun i _ j _ h => by rw [zSet_eq, zSet_eq]; exact Rect.part_disjoint zdiv h
theorem xrows_disjoint : ∀ i ∈ (Finset.univ : Finset (Fin 32)), ∀ j ∈ (Finset.univ : Finset (Fin 32)), i ≠ j → Disjoint (xSet i) (xSet j) :=
  fun i _ j _ h => by rw [xSet_eq, xSet_eq]; exact Rect.part_disjoint xdiv h
theorem zrows_cover : (Finset.univ : Finset (Fin 32)).biUnion zSet = Finset.univ :=
  (Finset.biUnion_congr rfl fun i _ => zSet_eq i).trans (Rect.biUnion_part zdiv)
theorem xrows_cover : (Finset.univ : Finset (Fin 32)).biUnion xSet = Finset.univ :=
  (Finset.biUnion_congr rfl fun i _ => xSet_eq i).trans (Rect.biUnion_part xdiv)

theorem z_split (d : Dev nD) (f : Buf (Elt F) (zLoc d)) :
    (zLoc d ↦{fullShare} f : sProp 𝕄) = bigSep Finset.univ fun w : Fin 32 => zLoc d ↦[zSet w]{fullShare} f := by
  rw [← pointsTo_biUnion Finset.univ (ℓ := zLoc d) zSet zrows_disjoint, zrows_cover]; try rfl
theorem x_split (d : Dev nD) (f : Buf (Elt F) (xLoc d)) :
    (xLoc d ↦{fullShare} f : sProp 𝕄) = bigSep Finset.univ fun w : Fin 32 => xLoc d ↦[xSet w]{fullShare} f := by
  rw [← pointsTo_biUnion Finset.univ (ℓ := xLoc d) xSet xrows_disjoint, xrows_cover]; try rfl
theorem e_split (d : Dev nD) (f : Buf (Elt F) (eLoc d)) :
    (eLoc d ↦{fullShare} f : sProp 𝕄) = bigSep Finset.univ fun w : Fin 32 => eLoc d ↦{eShare w} f :=
  pointsTo_piecesOf Finset.univ f pos32 fullShare

/-- The workers, core by core and subcore by subcore, are all thirty-two. -/
theorem workers (Φ : Fin 32 → sProp 𝕄) :
    (bigSep Finset.univ fun c : Fin ((K (F := F)).nCore 0) => bigSep Finset.univ fun i : Fin ((K (F := F)).nSub 0) => Φ (wid (cIx c) (sIx i)))
      = bigSep Finset.univ Φ := by
  show (bigSep Finset.univ fun c : Fin 2 => bigSep Finset.univ fun i : Fin 16 => Φ (wid c i)) = _
  rw [← bigSep_univ_prod (fun p : Fin 2 × Fin 16 => Φ (wid p.1 p.2)),
    ← BI.bigSep_image_of_injOn (f := fun p : Fin 2 × Fin 16 => wid p.1 p.2) (fun a _ b _ h => by
      have h' := congrArg Fin.val h
      simp only [wid] at h'
      have := a.1.isLt; have := b.1.isLt
      exact Prod.ext (Fin.ext (by omega)) (Fin.ext (by omega))) Φ,
    show (Finset.univ.image fun p : Fin 2 × Fin 16 => wid p.1 p.2) = Finset.univ by decide]

variable (W : Dev nD → Valuation τ sig (Elt F))

theorem st0_eq (d : Dev nD) : (bigSep Finset.univ fun c : Fin ((K (F := F)).nCore 0) => (P W).st 0 d c)
    = (iprop((zLoc d ↦{fullShare} W d (Proc.devRef .tc main_v0)) ∗ (eLoc d ↦{fullShare} W d (Proc.devRef .tc main_arg6))
        ∗ (xLoc d ↦{fullShare} W d (Proc.devRef .tc main_v1))) : sProp 𝕄) := by
  show (bigSep Finset.univ fun c : Fin ((K (F := F)).nCore 0) => bigSep Finset.univ fun i : Fin ((K (F := F)).nSub 0) => goP W d (wid (cIx c) (sIx i))) = _
  rw [workers (fun w => goP W d w), bigSep_sep', bigSep_sep', z_split, e_split, x_split]
theorem dn0_eq (d : Dev nD) : (bigSep Finset.univ fun c : Fin ((K (F := F)).nCore 0) => (P W).dn 0 d c)
    = (iprop((zLoc d ↦{fullShare} W d (Proc.devRef .tc main_v0)) ∗ (eLoc d ↦{fullShare} W d (Proc.devRef .tc main_arg6))
        ∗ (xLoc d ↦{fullShare} gathered (W d))) : sProp 𝕄) := by
  show (bigSep Finset.univ fun c : Fin ((K (F := F)).nCore 0) => bigSep Finset.univ fun i : Fin ((K (F := F)).nSub 0) => tdP W d (wid (cIx c) (sIx i))) = _
  rw [workers (fun w => tdP W d w), bigSep_sep', bigSep_sep', z_split, e_split, x_split]

/-! ## The contents before and after the call -/

/-- After the call: the output at the gathered rows, every other buffer as before. -/
def after1 (V : Valuation τ sig (Elt F)) : Valuation τ sig (Elt F) := Function.update V (Proc.devRef .tc main_v1) (gathered V)

theorem after1_v1 (V : Valuation τ sig (Elt F)) : after1 V (Proc.devRef .tc main_v1) = gathered V := Function.update_self ..
theorem after1_of_ne (V : Valuation τ sig (Elt F)) (b : DevRef τ sig) (h : b ≠ Proc.devRef .tc main_v1) : after1 V b = V b :=
  Function.update_of_ne h ..

/-- The three buffers of the call. -/
abbrev callRefs : Finset (DevRef τ sig) := {Proc.devRef .tc main_v0, Proc.devRef .tc main_arg6, Proc.devRef .tc main_v1}
theorem callRefs_sub : callRefs ⊆ Pipeline.ucRefs τ sig := by
  intro b hb
  simp only [callRefs, Finset.mem_insert, Finset.mem_singleton] at hb
  rcases hb with rfl | rfl | rfl
  · exact mem_uc main_v0 (by decide)
  · exact mem_uc main_arg6 (by decide)
  · exact mem_uc main_v1 (by decide)

theorem held_call (d : Dev nD) (V : Valuation τ sig (Elt F)) :
    (StableHlo.held (d.tc : Thread nD τ) callRefs V : sProp 𝕄)
      = iprop((zLoc d ↦{fullShare} V (Proc.devRef .tc main_v0)) ∗ (eLoc d ↦{fullShare} V (Proc.devRef .tc main_arg6))
        ∗ (xLoc d ↦{fullShare} V (Proc.devRef .tc main_v1))) := by
  unfold StableHlo.held
  rw [SparseCore.bigSep_insert' (by decide), SparseCore.bigSep_insert' (by decide), bigSep_singleton]

/-- All the buffers before the call: what the call is handed, and the rest. -/
theorem call_out (d : Dev nD) :
    (StableHlo.held (d.tc : Thread nD τ) (Pipeline.ucRefs τ sig) (W d) : sProp 𝕄)
      = iprop((bigSep Finset.univ fun c : Fin ((K (F := F)).nCore 0) => (P W).st 0 d c)
        ∗ StableHlo.held (d.tc : Thread nD τ) (Pipeline.ucRefs τ sig \ callRefs) (W d)) := by
  rw [st0_eq, StableHlo.held_sub_split _ callRefs_sub, held_call]
/-- All the buffers after it: what it hands back, and the rest. -/
theorem call_back (d : Dev nD) :
    (StableHlo.held (d.tc : Thread nD τ) (Pipeline.ucRefs τ sig) (after1 (W d)) : sProp 𝕄)
      = iprop((bigSep Finset.univ fun c : Fin ((K (F := F)).nCore 0) => (P W).dn 0 d c)
        ∗ StableHlo.held (d.tc : Thread nD τ) (Pipeline.ucRefs τ sig \ callRefs) (W d)) := by
  rw [dn0_eq, StableHlo.held_sub_split _ callRefs_sub, held_call, after1_v1, after1_of_ne _ _ (by decide), after1_of_ne _ _ (by decide),
    StableHlo.held_congr (V := after1 (W d)) (V' := W d) _ (fun b hb => after1_of_ne _ _ (by
      rintro rfl; exact (Finset.mem_sdiff.mp hb).2 (by simp [callRefs])))]

/-! ## The launch's ghost state -/

abbrev cellsP := Pipeline.cells (nD := nD) (τ := τ) (Pipeline.pin (pcfgs (F := F)) adm) cellOf_inj
abbrev toksP := Pipeline.launchToks (nD := nD) (τ := τ) (Pipeline.pin (pcfgs (F := F)) adm) cellOf_inj
def u₀ : UU := (initOf (K (F := F)).hsCells (K (F := F)).hsToks, (initOf (cellsP (F := F)) (toksP (F := F)), 1))

/-- The three pipelines' ghost state on a core. -/
abbrev G (d : Dev nD) : sProp 𝕄 := Pipeline.PerCore.ghostOn (pcfgs (F := F)) (fun _ => adm) EP Finset.univ d

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P W).x q thr) := by
  unfold u₀
  iintro Hu
  ihave H := (ownU_pair (initOf (K (F := F)).hsCells (K (F := F)).hsToks) ((initOf (cellsP (F := F)) (toksP (F := F)), 1) : UP × Counters)) $$ Hu
  icases H with ⟨HH, HP⟩
  ihave HP' := (show (BI.own (embR ((initOf (cellsP (F := F)) (toksP (F := F)), 1) : UP × Counters)) : sProp 𝕄)
    ⊢ BI.own (EP (initOf (cellsP (F := F)) (toksP (F := F)))) from .rfl) $$ HP
  imod (Pipeline.fund_ghost (Pipeline.pin (pcfgs (F := F)) adm) (EP (F := F)) cellOf_inj) $$ HP' with ⟨Hg, Ht⟩
  imodintro
  isplitl [HH]; · iexact HH
  isplitl [Hg Ht]
  · iapply (show iprop((bigSep Finset.univ fun c : Dev nD => bigSep Finset.univ fun p => Pipeline.cellsGhost (Pipeline.pin (pcfgs (F := F)) adm) (EP (F := F)) p c)
        ∗ (bigSep Finset.univ fun c : Dev nD => bigSep Finset.univ fun p => (Pipeline.toksInit (Pipeline.pin (pcfgs (F := F)) adm) (EP (F := F)) p c : sProp 𝕄)))
        ⊢ bigSep Finset.univ fun d : Dev nD => G (F := F) d from by
      rw [← bigSep_sep']
      refine Entails.of_eq (bigSep_congr fun c _ => ?_)
      unfold G Pipeline.PerCore.ghostOn; rw [bigSep_sep'])
    isplitl [Hg] <;> iassumption
  rw [show (bigSep Finset.univ fun thr : Thread nD τ => bigSep Finset.univ fun q : Fin 1 => (P (F := F) W).x q thr) = bigSep Finset.univ fun _ => iprop(emp) from
    bigSep_congr fun _ _ => bigSep_univ_of_subsingleton (0 : Fin 1), show (bigSep Finset.univ fun _ : Thread nD τ => iprop(emp)) = (iprop(emp) : sProp 𝕄) from bigSep_emp_const _]
  iempintro

/-! ## The TensorCore's program -/

variable (m : (ℓ : Loc nD τ sig) → Buf (Elt F) ℓ) (ρ : Dev nD → PrngReg)

/-- The launch's memory as a valuation, -/
abbrev U0 : Dev nD → Valuation τ sig (Elt F) := fun d b => m (d, b)
/-- before the call, -/
abbrev W0 : Dev nD → Valuation τ sig (Elt F) := fun d => StableHlo.after hostOps0 (U0 m d)
/-- and after it. -/
def X1 : Dev nD → Valuation τ sig (Elt F) := fun d => after1 (W0 m d)

abbrev FIN (d : Dev nD) : sProp 𝕄 := StableHlo.held (d.tc : Thread nD τ) (Pipeline.ucRefs τ sig) (B3 (X1 m) d)

/-- The TensorCore's state after the call, apart from what it owes. -/
def restSt (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

/-- With one call every waiting bound is below the next call's levels. -/
theorem wbelow (d : Dev nD) (W' : Waits sig (HIx 1)) : (K (F := F)).WBelow (SparseCore.T d) W' (8 * SparseCore.Cfg.Blocks.fst 1 1 1) := by
  intro p _
  obtain ⟨sm, ix⟩ := p
  cases ix with
  | none => exact Nat.zero_le _
  | some j =>
    have h := (K (F := F)).lev_some_le (SparseCore.T d, sm) j
    have hj : j.val = 0 := by omega
    refine h.trans ?_
    rw [hj]; decide

theorem tcSt_to (d : Dev nD) : (K (F := F)).tcSt EH d ((0 : Fin 1).val + 1)
    ⊢ (iprop((∃ W', owes (SparseCore.T d) (0 : CellTallies nD τ sig (HIx 1)) W') ∗ restSt (F := F) d) : sProp 𝕄) := by
  show (K (F := F)).tcSt EH d 1 ⊢ _
  unfold SparseCore.Cfg.tcSt restSt
  rw [(K (F := F)).Otc_end d (n := 1) le_rfl]
  iintro ⟨⟨%W', -, HO⟩, Hr⟩
  isplitl [HO]
  · iexists W'; iexact HO
  · iexact Hr
theorem tcSt_from (d : Dev nD) : (iprop((∃ W', owes (SparseCore.T d) (0 : CellTallies nD τ sig (HIx 1)) W') ∗ restSt (F := F) d) : sProp 𝕄)
    ⊢ (K (F := F)).tcSt EH d 1 := by
  unfold SparseCore.Cfg.tcSt restSt
  rw [(K (F := F)).Otc_end d (n := 1) le_rfl]
  iintro ⟨⟨%W', HO⟩, Hr⟩
  isplitl [HO]
  · iexists W'
    isplitr
    · ipureintro; exact wbelow d W'
    · iexact HO
  · iexact Hr

set_option backward.isDefEq.respectTransparency.types false in
/-- After the call: the three regions, from every buffer at `X d`, leave every buffer at `B3 X d`. -/
theorem tail_run (X : Dev nD → Valuation τ sig (Elt F)) (d : Dev nD) {Q : PUnit → sProp 𝕄} :
    iprop(((boundary (d.tc : Thread nD τ) ∗ StableHlo.held (d.tc : Thread nD τ) (Pipeline.ucRefs τ sig) (B3 X d) ∗ R d) -∗ Q ⟨⟩)
        ∗ boundary (d.tc : Thread nD τ) ∗ (StableHlo.held (d.tc : Thread nD τ) (Pipeline.ucRefs τ sig) (X d) ∗ R d) ∗ levAts (L (F := F)) (lv (F := F)) ∗ G (F := F) d)
      ⊢ wp frame (wpE (D (F := F)) 𝒱 (d.tc : Thread nD τ) none) Set.univ (Pipeline.Seg.run (segs X)) Q :=
  Pipeline.wp_segs (pcfgs (F := F)) adm (pdats X) (none : HIx 1) cellOf_inj EP defs₀ 𝒱₀ (L (F := F)) (lv (F := F)) d
    (segs X) Finset.univ (fun c => iprop(StableHlo.held (c.tc : Thread nD τ) (Pipeline.ucRefs τ sig) (X c) ∗ R c))
    (fun c => iprop(StableHlo.held (c.tc : Thread nD τ) (Pipeline.ucRefs τ sig) (B3 X c) ∗ R c))
    (show [(0 : Fin 3), 1, 2].Nodup by decide) (fun p _ => Finset.mem_univ p)
    ⟨fun _ => .rfl, fun _ => .rfl, fun _ => .rfl, fun _ => .rfl, fun _ => .rfl, fun _ => .rfl, fun _ => .rfl⟩

theorem hmain (κ : GSem nD τ sig → ℕ) (d : Dev nD) :
    iprop((K (F := F)).ctx EH (P (W0 m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq (X1 m) d, show unscopedBufs d (fun b => m ((SparseCore.T d).loc b)) = (StableHlo.held (d.tc : Thread nD τ) (Pipeline.ucRefs τ sig) (U0 m d) : sProp 𝕄)
      from Pipeline.unscopedBufs_held d (U0 m d)]
  iintro ⟨#Hctx, Hst, ⟨Hb, Hu, Hts, Hp⟩, HG⟩
  ihave Hlev := (SparseCore.Cfg.ctx_levAts κ) $$ Hctx
  iapply (StableHlo.wp_seq 𝒱 none Set.univ d (Pipeline.ucRefs τ sig) _ hostOps0
    (fun op h => Pipeline.sub_ucRefs op ((List.forall_iff_forall_mem.mp hostOps0_sub) op h))
    (fun op h => (List.forall_iff_forall_mem.mp hostOps0_fresh) op h) (U0 m d)) $$ [Hb Hu]
  · isplitl [Hb] <;> iassumption
  iintro ⟨Hb, Hu⟩
  ihave Hu' := (Entails.of_eq (call_out (W0 m) d)) $$ Hu
  icases Hu' with ⟨Hcall, Hrest⟩
  rw [wp_bind]
  iapply ((K (F := F)).wp_run (D (F := F)) 𝒱 (EH := EH) (P := P (W0 m)) κ d 0)
  isplitr; · iexact Hctx
  isplitl [Hst]; · iexact Hst
  isplitl [Hcall]; · iexact Hcall
  iintro ⟨Hst, Hdn⟩
  ihave Hst' := (tcSt_to (F := F) d) $$ Hst
  icases Hst' with ⟨HO, Hst⟩
  ihave Hu := (Entails.of_eq (call_back (W0 m) d).symm) $$ [Hdn Hrest]
  · isplitl [Hdn] <;> iassumption
  iapply ((K (F := F)).wp_liftProg (D (F := F)) 𝒱 (SparseCore.T d) Set.univ none (Pipeline.Seg.run (segs (X1 m))) _)
  iapply (tail_run (X1 m) d)
  isplitl [Hst Hts]
  · iintro ⟨Hb, Hu, Hp, HO⟩
    isplitl [HO Hst]
    · iapply (tcSt_from (F := F) d); isplitl [HO] <;> iassumption
    isplitl [Hu]; · iexact Hu
    isplitl [Hb] <;> iassumption
  isplitl [Hb]; · iexact Hb
  isplitl [Hu HO Hp]
  · isplitl [Hu]; · iexact Hu
    isplitl [Hp]; · iexists _; iexact Hp
    iexact HO
  isplitl [Hlev] <;> iassumption

/-! ## The final state -/

def fq (d : Dev nD) (s' : Phys nD τ sig (Elt F)) : Prop := ∀ b ∈ Pipeline.ucRefs τ sig, s'.mem.mem (d, b) = B3 (X1 m) d b

theorem hfin (d : Dev nD) (s' : Phys nD τ sig (Elt F)) : iprop(FIN m d ∗ SI s') ⊢ (⌜fq m d s'⌝ : sProp 𝕄) := by
  unfold FIN StableHlo.held fq
  exact (Idealize.ShloMosaic.pointsTo_read_all (Pipeline.ucRefs τ sig) (fun b => (d, b)) (B3 (X1 m) d) s').trans sep_elim_left

/-- The run: every fair execution from the launch's memory ends, nothing faulting, every unscoped buffer of every device at
    the last boundary's contents and every semaphore at zero — whenever the 4096 numbers name rows of the table. -/
theorem run_main [∀ e, Nonempty (Elt F e)] (hpre : PreOK (W0 m)) :
    θ_run (defs (F := F)) (threads (F := F)) ⟨m, fun _ => 0, ρ⟩
      (fun r => (∀ (d : Dev nD), ∀ b ∈ Pipeline.ucRefs τ sig, r.2.mem (d, b) = B3 (X1 m) d b) ∧ r.2.sem = fun _ => 0) :=
  SparseCore.Cfg.θ_run_sc_quiescent (K := K (F := F)) (D := D (F := F)) (𝒱 := 𝒱) (EH := EH) (P := P (W0 m)) (A := ∅) facts v₀
    (fun q hq => match q with | 0 => nomatch hq)
    (fun q _ => match q with | 0 => tileObl (W0 m) facts hpre)
    (fun q _ => match q with | 0 => SparseCore.Cfg.VecSplit.of_plain (vecSplit (W0 m)))
    m ρ main (fun d => G (F := F) d) (FIN m) (u₀ (F := F)) (sep_elim_left.trans (hu₀ (W0 m))) (hmain m ρ) (fq m) (hfin m) _
    (fun _ h hz => ⟨h, hz⟩)

/-- Every argument ends as launched. -/
theorem final_args (d : Dev nD) : ∀ a ∈ argRefs, B3 (X1 m) d (Proc.devRef .tc a) = m ((d.tc : Thread nD τ).loc a) := fun a ha =>
  (B3_args (X1 m) d a ha).trans ((after1_of_ne (W0 m d) _ (by
      have : a ≠ main_v1 := by rintro rfl; exact absurd ha (by decide)
      exact fun e => this (Proc.devRef_injective _ e))).trans
    (StableHlo.after_of_writes_sub hostOps0 (U0 m d) hostOps0_writes (hostOps0_args a ha)))

end Cert.Proof.Ker
-- ==== Proof.Frames.lean ====
/-
  The frames and the two names: each program ends with its arguments as launched and every semaphore at zero, and the two
  named constants are the reals the certificate's table gives them.
-/
module

public import proofs.«01_k».proof.Proof.Pre
public import proofs.«01_k».proof.Proof.Ker.Run
public import proofs.«01_k».proof.Proof.Bit.Run
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

namespace Ker

open Cert.KernelIdeal Cert.KernelIdeal.Gen

/-- The call's index list is the array of atomic numbers read in row-major order. -/
theorem W0_v0 {F : FTy → Type} [FloatOps F] [Named F] (m : (ℓ : Loc nD τ sig) → Buf (Elt F) ℓ) (d : Dev nD) (j : S4096.Idx) :
    W0 m d (Proc.devRef .tc main_v0) j
      = m ((d.tc : Thread nD τ).loc main_arg0) (Shape.reshapeEquiv shapeCasts_S8x512_S4096 j) := rfl

/-- Atomic numbers below 100 are an index list the call accepts. -/
theorem preOK_of {F : FTy → Type} [FloatOps F] [Named F] (m : (ℓ : Loc nD τ sig) → Buf (Elt F) ℓ)
    (h : ∀ (d : Dev nD) (i : S8x512.Idx), (m ((d.tc : Thread nD τ).loc main_arg0) i).toNat < 100) : PreOK (W0 m) := fun d j => by
  rw [W0_v0]; exact h d _

/-- Every argument ends as launched and every semaphore at zero, of any run that ends with the last boundary's contents. -/
theorem frame_of {F : FTy → Type} [FloatOps F] [Named F] [∀ e, Nonempty (Elt F e)] (m : (ℓ : Loc nD τ sig) → Buf (Elt F) ℓ) (ρ : Dev nD → PrngReg)
    (hpre : PreOK (W0 m)) :
    θ_run (defs (F := F)) (threads (F := F)) ⟨m, fun _ => 0, ρ⟩ (fun r => (∀ c : Dev nD, ∀ a ∈ argRefs,
      r.2.mem ((c.tc : Thread nD τ).loc a) = m ((c.tc : Thread nD τ).loc a)) ∧ r.2.sem = fun _ => 0) :=
  (θ_run defs _ _).mono (fun r h => ⟨fun c a ha => (h.1 c (Proc.devRef .tc a) (mem_uc a (ListAll.forall_mem_of_all_decide (p := fun a : Ref sig .tc => ¬ (Proc.devRef .tc a : DevRef τ sig).isScoped) (by decide +kernel) a ha))).trans (final_args m c a ha), h.2⟩)
    (run_main m ρ hpre)

end Ker

namespace Bit

open Cert.Kernel Cert.Kernel.Gen

/-- The call's index list is the array of atomic numbers read in row-major order. -/
theorem W0_v0 {F : FTy → Type} [FloatOps F] (m : (ℓ : Loc nD τ sig) → Buf (Elt F) ℓ) (d : Dev nD) (j : S4096.Idx) :
    W0 m d (Proc.devRef .tc main_v0) j
      = m ((d.tc : Thread nD τ).loc main_arg0) (Shape.reshapeEquiv shapeCasts_S8x512_S4096 j) := rfl

/-- Atomic numbers below 100 are an index list the call accepts. -/
theorem preOK_of {F : FTy → Type} [FloatOps F] (m : (ℓ : Loc nD τ sig) → Buf (Elt F) ℓ)
    (h : ∀ (d : Dev nD) (i : S8x512.Idx), (m ((d.tc : Thread nD τ).loc main_arg0) i).toNat < 100) : PreOK (W0 m) := fun d j => by
  rw [W0_v0]; exact h d _

/-- Every argument ends as launched and every semaphore at zero, of any run that ends with the last boundary's contents. -/
theorem frame_of {F : FTy → Type} [FloatOps F] [∀ e, Nonempty (Elt F e)] (m : (ℓ : Loc nD τ sig) → Buf (Elt F) ℓ) (ρ : Dev nD → PrngReg)
    (hpre : PreOK (W0 m)) :
    θ_run (defs (F := F)) (threads (F := F)) ⟨m, fun _ => 0, ρ⟩ (fun r => (∀ c : Dev nD, ∀ a ∈ argRefs,
      r.2.mem ((c.tc : Thread nD τ).loc a) = m ((c.tc : Thread nD τ).loc a)) ∧ r.2.sem = fun _ => 0) :=
  (θ_run defs _ _).mono (fun r h => ⟨fun c a ha => (h.1 c (Proc.devRef .tc a) (mem_uc a (ListAll.forall_mem_of_all_decide (p := fun a : Ref sig .tc => ¬ (Proc.devRef .tc a : DevRef τ sig).isScoped) (by decide +kernel) a ha))).trans (final_args m c a ha), h.2⟩)
    (run_main m ρ hpre)

end Bit

/-- `Cert.quiescent_Kernel`. -/
theorem frame_p : Cert.quiescent_Kernel := fun m ρ hpre =>
  (θ_run Cert.Kernel.defs _ _).mono (fun r h => ⟨fun c => ⟨h.1 c _ (by decide), h.1 c _ (by decide), h.1 c _ (by decide), h.1 c _ (by decide), h.1 c _ (by decide), h.1 c _ (by decide), h.1 c _ (by decide), h.1 c _ (by decide), h.1 c _ (by decide), h.1 c _ (by decide), h.1 c _ (by decide), h.1 c _ (by decide), h.1 c _ (by decide), h.1 c _ (by decide), h.1 c _ (by decide), h.1 c _ (by decide)⟩, h.2⟩)
    (Bit.frame_of (F := Bits) m ρ (Bit.preOK_of m fun d i => Pre.species_lt _ _ _ _ _ _ _ _ _ _ _ _ _ _ _ _ (hpre d) i))

/-- `Cert.quiescent_KernelIdeal`. -/
theorem frame_pi : Cert.quiescent_KernelIdeal := fun m ρ hpre =>
  (θ_run Cert.KernelIdeal.defs _ _).mono (fun r h => ⟨fun c => ⟨h.1 c _ (by decide), h.1 c _ (by decide), h.1 c _ (by decide), h.1 c _ (by decide), h.1 c _ (by decide), h.1 c _ (by decide), h.1 c _ (by decide), h.1 c _ (by decide), h.1 c _ (by decide), h.1 c _ (by decide), h.1 c _ (by decide), h.1 c _ (by decide), h.1 c _ (by decide), h.1 c _ (by decide), h.1 c _ (by decide), h.1 c _ (by decide)⟩, h.2⟩)
    (Ker.frame_of (F := Ideal) m ρ (Ker.preOK_of m fun d i => Pre.species_lt _ _ _ _ _ _ _ _ _ _ _ _ _ _ _ _ (hpre d) i))

/-- `Cert.quiescent_ReferenceIdeal`. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- `Cert.preserves_Kernel_KernelIdeal`. -/
theorem preserves : Cert.preserves_Kernel_KernelIdeal :=
  ⟨IdealRules.named_const.statement Cert.KernelIdeal.κ "spacing" .f32 0x3E555555#32 ((5/24 : ℝ) : EReal) rfl,
    IdealRules.named_const.statement Cert.KernelIdeal.κ "coeff" .f32 0xC13851EC#32 ((-288/25 : ℝ) : EReal) rfl⟩

end Cert.Proof

end
-- ==== Proof.Sch.lean ====
/-
  The interaction network over the extended reals, on plain index functions: what both programs compute.
-/
module

public import Idealize.ShloMosaic.PureOps.Ideal

@[expose] public section

noncomputable section

namespace Cert.Proof.Sch

open Idealize.ShloMosaic
open scoped BigOperators

/-- The softplus `log (1 + exp x)` in the form that does not overflow, less `log 2`. -/
def ssp (x : EReal) : EReal :=
  max x 0 + Ideal.log1p (Ideal.exp (-(max x (-x)))) - Ideal.log (Ideal.ofBits .f32 0x40000000#32)

/-- The `q`-th of the 25 centres, 0 to 5. -/
def centre (q : Fin 25) : EReal := ((q.val : ℝ) : EReal) * ((5 / 24 : ℝ) : EReal)

/-- The distance of two atoms, from its square kept away from zero. -/
def dist (pi pj : Fin 3 → EReal) : EReal :=
  Ideal.sqrt (max (∑ k : Fin 3, (pj k - pi k) * (pj k - pi k)) (Ideal.ofBits .f32 0x2EDBE6FF#32))

/-- The `q`-th Gaussian of a distance. -/
def gauss (r : EReal) (q : Fin 25) : EReal :=
  Ideal.exp (((-288 / 25 : ℝ) : EReal) * ((r - centre q) * (r - centre q)))

/-- The filter of a distance: two dense layers on its Gaussians. -/
def filt (w1 : Fin 25 → Fin 128 → EReal) (w2 : Fin 128 → Fin 128 → EReal) (r : EReal) (f : Fin 128) : EReal :=
  ∑ h : Fin 128, ssp (∑ q : Fin 25, gauss r q * w1 q h) * w2 h f

/-- A row times a matrix. -/
def rowMul (x : Fin 128 → EReal) (w : Fin 128 → Fin 128 → EReal) (f : Fin 128) : EReal := ∑ h : Fin 128, x h * w h f

/-- The filtered sum over an atom's neighbours: each neighbour's features times the filter of its distance. -/
def agg (w1 : Fin 25 → Fin 128 → EReal) (w2 : Fin 128 → Fin 128 → EReal) (pi : Fin 3 → EReal) (pj : Fin 64 → Fin 3 → EReal)
    (y : Fin 64 → Fin 128 → EReal) (f : Fin 128) : EReal :=
  ∑ n : Fin 64, filt w1 w2 (dist pi (pj n)) f * y n f

/-- An atom's features after a block: two dense layers on the filtered sum, added to what they were. -/
def upd (wo wd : Fin 128 → Fin 128 → EReal) (x a : Fin 128 → EReal) (f : Fin 128) : EReal :=
  x f + rowMul (fun h => ssp (rowMul a wo h)) wd f

/-- An atom's features after a block, from every molecule's positions, neighbours and features. -/
def block (w1 : Fin 25 → Fin 128 → EReal) (w2 wi wo wd : Fin 128 → Fin 128 → EReal) (p : Fin 8 → Fin 512 → Fin 3 → EReal)
    (nb : Fin 8 → Fin 512 → Fin 64 → Fin 512) (x : Fin 8 → Fin 512 → Fin 128 → EReal) (b : Fin 8) (i : Fin 512) : Fin 128 → EReal :=
  upd wo wd (x b i) (agg w1 w2 (p b i) (fun n => p b (nb b i n)) (fun n => rowMul (x b (nb b i n)) wi))

/-- `0 - |x - 0|` is `-|x|`: the kernel's spelling of the softplus. -/
theorem ssp_eq (x : EReal) :
    max x 0 + Ideal.log1p (Ideal.exp (0 - max (x - 0) (-(x - 0)))) - Ideal.log (Ideal.ofBits .f32 0x40000000#32) = ssp x := by
  unfold ssp; rw [sub_zero, zero_sub]

/-- A position given as itself and its difference with itself gives the same square of the difference with another. -/
theorem sq_split (a b : EReal) : (a + (a - a) - b) * (a + (a - a) - b) = (a - b) * (a - b) := by
  induction a with
  | bot => rfl
  | top =>
    have h : (⊤ : EReal) + (⊤ - ⊤) = ⊥ := by simp [sub_eq_add_neg]
    rw [h]
    have h1 : (⊥ : EReal) - b = ⊥ := by simp [sub_eq_add_neg]
    rw [h1]
    induction b with
    | bot => simp [sub_eq_add_neg]
    | top => simp [sub_eq_add_neg]
    | coe b => simp [sub_eq_add_neg, ← EReal.coe_neg]
  | coe a =>
    have h : (a : EReal) + ((a : EReal) - (a : EReal)) = (a : EReal) := by
      rw [← EReal.coe_sub, sub_self, EReal.coe_zero, add_zero]
    rw [h]

/-- So the distance is the same. -/
theorem dist_split (pi pj : Fin 3 → EReal) : dist pi (fun k => pj k + (pj k - pj k)) = dist pi pj := by
  unfold dist; simp only [sq_split]

end Cert.Proof.Sch

end
-- ==== Proof.Ker.Pay.lean ====
/-
  What the bodies of the three pipelines compute, read at an index over the extended reals.
-/
module

public import proofs.«01_k».proof.Proof.Sch
public import proofs.«01_k».proof.Proof.Pre
public import proofs.«01_k».proof.Proof.Gen.KernelIdeal.Skeleton
public import Idealize.ShloMosaic.Lib.Pointwise
public import Idealize.ShloMosaic.Lib.MatmulPlain
public import Idealize.ShloMosaic.Lib.Pipeline.ValueKit

@[expose] public section

set_option maxRecDepth 16384

noncomputable section

namespace Cert.Proof.Ker

open Cert.KernelIdeal Cert.KernelIdeal.Gen
open Idealize.ShloMosaic
open Idealize.ShloMosaic.ValueIdx hiding ix1 ix2 ix3 ix4 ix5 eq_ix1 eq_ix2 eq_ix3
open Cert.Proof.Sch Cert.Proof.Pre
open scoped BigOperators

/-- Row `i * 64 + n` of the 1024: neighbour `n` of atom `i` of the block. -/
def rn (i : Fin 16) (n : Fin 64) : Fin 1024 := ⟨i.val * 64 + n.val, by omega⟩

/-- A one-hot entry: the bit widened and read as a number. -/
theorem hot (v : BitVec 32) (a : Fin 512) :
    (((((IntOp.cmpi .eq v (BitVec.ofNat 32 a.val)).setWidth 32).toInt : ℝ)) : EReal) = if v.toNat = a.val then (1 : EReal) else 0 := by
  have e : (v = BitVec.ofNat 32 a.val) ↔ v.toNat = a.val := by
    constructor
    · rintro rfl; rw [BitVec.toNat_ofNat]; omega
    · intro h; apply BitVec.eq_of_toNat_eq; rw [BitVec.toNat_ofNat, h]; omega
  by_cases h : v.toNat = a.val
  · have : IntOp.cmpi .eq v (BitVec.ofNat 32 a.val) = 1#1 := by
      rw [← e.2 h]; simp [IntOp.cmpi]
    rw [this, if_pos h]; simp
  · have : IntOp.cmpi .eq v (BitVec.ofNat 32 a.val) = 0#1 := by
      show BitVec.ofBool (v == BitVec.ofNat 32 a.val) = 0#1
      rw [beq_eq_false_iff_ne.2 (mt e.1 h)]; rfl
    rw [this, if_neg h]; simp

/-- The table's row of a neighbour, picked by the product with the one-hot rows. -/
theorem pay4_apply (v0 : Vec Ideal S1x16x64 .i32) (v10 : Vec Ideal S1x512x134 .bf16) (i : Fin 16) (n : Fin 64) (c : Fin 134)
    (hn : (v0 (ix3 0 i n)).toNat < 512) :
    k2_pay4 v0 v10 (ix2 (rn i n) c) = v10 (ix3 0 ⟨(v0 (ix3 0 i n)).toNat, hn⟩ c) := by
  unfold k2_pay4
  refine (Ideal.matmul_plain_apply (M := 1024) (K := 512) (N := 134) none _ _ _ (rn i n) c).trans ?_
  rw [show (constant S1024x134 .f32 0x00000000#32 : FVec Ideal S1024x134 .f32) (ValueIdx.ix2 (rn i n) c) = 0 from bits_zero, zero_add]
  have hot1 : ∀ a : Fin 512, (shapeCast S1024x512 (truncf .bf16 (sitofp .f32 (extui 32 (cmpi .eq (broadcastTo S16x64x512 (shapeCast S16x64x1 (shapeCast S16x64 v0 shapeCasts_S1x16x64_S16x64) shapeCasts_S16x64_S16x64x1) broadcasts_S16x64x1_S16x64x512) (iota .tc S16x64x512 32 [2] iota_S16x64x512_d2_w32)) natLt_1_32)) bitsLt_bf16_f32 : FVec Ideal S16x64x512 .bf16) shapeCasts_S16x64x512_S1024x512) (ix2 (rn i n) a)
      = if (v0 (ix3 0 i n)).toNat = a.val then (1 : EReal) else 0 := by
    intro a
    rw [shapeCast_apply _ shapeCasts_S16x64x512_S1024x512 (ix2 (rn i n) a) (ix3 i n a) (by
      rw [Shape.rowMajor_val_three, Shape.rowMajor_val_two]; show (i.val * 64 + n.val) * 512 + a.val = (i.val * 64 + n.val) * 512 + a.val; rfl)]
    refine Eq.trans ?_ (hot (v0 (ix3 0 i n)) a)
    show ((((IntOp.cmpi .eq (broadcastTo S16x64x512 _ _ (ix3 i n a)) (iota .tc S16x64x512 32 [2] iota_S16x64x512_d2_w32 (ix3 i n a))).setWidth 32).toInt : ℝ) : EReal) = _
    rw [iota_single_apply, broadcastTo_apply _ _ (ix3 i n a) (ix3 i n 0) (by
      intro d; match d with | ⟨0, _⟩ => rfl | ⟨1, _⟩ => rfl | ⟨2, _⟩ => rfl),
      shapeCast_apply _ shapeCasts_S16x64_S16x64x1 (ix3 i n 0) (ix2 i n) (by
        rw [Shape.rowMajor_val_three, Shape.rowMajor_val_two]; show i.val * 64 + n.val = (i.val * 64 + n.val) * 1 + 0; omega),
      shapeCast_apply _ shapeCasts_S1x16x64_S16x64 (ix2 i n) (ix3 0 i n) (by
        rw [Shape.rowMajor_val_three, Shape.rowMajor_val_two]; show (0 * 16 + i.val) * 64 + n.val = i.val * 64 + n.val; omega)]
    rfl
  have tab : ∀ a : Fin 512, shapeCast S512x134 v10 shapeCasts_S1x512x134_S512x134 (ix2 a c) = v10 (ix3 0 a c) := fun a =>
    shapeCast_apply _ _ _ _ (by
      rw [Shape.rowMajor_val_three, Shape.rowMajor_val_two]; show (0 * 512 + a.val) * 134 + c.val = a.val * 134 + c.val; omega)
  rw [Finset.sum_eq_single (⟨(v0 (ix3 0 i n)).toNat, hn⟩ : Fin 512)]
  · refine (congrArg₂ (· * ·) (hot1 _) (tab _)).trans ?_
    rw [if_pos rfl, one_mul]
  · intro a _ ha
    refine (congrArg₂ (· * ·) (hot1 a) (tab a)).trans ?_
    rw [if_neg (fun e => ha (Fin.ext e.symm)), zero_mul]
  · intro h; exact absurd (Finset.mem_univ _) h

/-- The named constants, over the extended reals. -/
theorem spacing_eq : Named.named (F := Ideal) (φ := .f32) Cert.KernelIdeal.κ "spacing" 0x3E555555#32 = ((5 / 24 : ℝ) : EReal) :=
  IdealRules.named_const.ideal_named_scalar _ _ _ _ rfl
theorem coeff_eq : Named.named (F := Ideal) (φ := .f32) Cert.KernelIdeal.κ "coeff" 0xC13851EC#32 = ((-288 / 25 : ℝ) : EReal) :=
  IdealRules.named_const.ideal_named_scalar _ _ _ _ rfl

/-- The neighbour's features. -/
theorem pay5_apply (v0 : Vec Ideal S1x16x64 .i32) (v10 : Vec Ideal S1x512x134 .bf16) (i : Fin 16) (n : Fin 64) (f : Fin 128)
    (hn : (v0 (ix3 0 i n)).toNat < 512) :
    k2_pay5 v0 v10 (ix2 (rn i n) f) = v10 (ix3 0 ⟨(v0 (ix3 0 i n)).toNat, hn⟩ (f.castLE (by decide))) := by
  unfold k2_pay5
  refine (extractStridedSlice_apply _ _ _ _ (ix2 (rn i n) (f.castLE (by decide : 128 ≤ 134))) ?_).trans (pay4_apply v0 v10 i n _ hn)
  intro d; match d with
  | ⟨0, _⟩ => show (rn i n).val = 0 + (rn i n).val; omega
  | ⟨1, _⟩ => show f.val = 0 + f.val; omega

/-- The neighbour's position, the sum of the table's two parts. -/
def pos2 (v10 : Vec Ideal S1x512x134 .bf16) (a : Fin 512) (k : Fin 3) : EReal :=
  v10 (ix3 0 a ⟨128 + k.val, by omega⟩) + v10 (ix3 0 a ⟨131 + k.val, by omega⟩)

/-- The Gaussians of the neighbour's distance. -/
theorem pay6_apply (v0 : Vec Ideal S1x16x64 .i32) (v10 : Vec Ideal S1x512x134 .bf16) (v19 : Vec Ideal S1x16x3 .f32)
    (i : Fin 16) (n : Fin 64) (q : Fin 25) (hn : (v0 (ix3 0 i n)).toNat < 512) :
    k2_pay6 v0 v10 v19 (ix2 (rn i n) q)
      = gauss (dist (fun k => v19 (ix3 0 i k)) (pos2 v10 ⟨(v0 (ix3 0 i n)).toNat, hn⟩)) q := by
  unfold k2_pay6
  pointwise
  have hp : ∀ (c : ℕ) (hc : c < 134), k2_pay4 v0 v10 (ix2 (rn i n) ⟨c, hc⟩)
      = v10 (ix3 0 ⟨(v0 (ix3 0 i n)).toNat, hn⟩ ⟨c, hc⟩) := fun c hc => pay4_apply v0 v10 i n ⟨c, hc⟩ hn
  have hv : ∀ (h : (rn i n).val / 64 < 16) (x : Fin 3), v19 (ix3 0 ⟨(rn i n).val / 64, h⟩ x)
      = v19 (ix3 0 i x) := by
    intro h x
    have : (⟨(rn i n).val / 64, h⟩ : Fin 16) = i := Fin.ext (by
      show (i.val * 64 + n.val) / 64 = i.val
      have := n.isLt; omega)
    rw [this]
  have hs : (FloatOps.sitofp (F := Ideal) FTy.f32 (BitVec.ofNat 32 q.val)) = ((q.val : ℝ) : EReal) := by
    show (((BitVec.ofNat 32 q.val).toInt : ℝ) : EReal) = _
    rw [(by decide : ∀ q : Fin 25, (BitVec.ofNat 32 q.val).toInt = (q.val : ℤ)) q]; simp
  simp only [hp, hv, hs, spacing_eq, coeff_eq]
  rfl

/-- The filtered sum over the neighbours, from the Gaussians and the neighbours' features as the kernel's rows hold them. -/
def sum7 (v13 : FVec Ideal S1024x128 .f32) (v42 : FVec Ideal S1024x25 .bf16) (v43 : Vec Ideal S25x128 .bf16)
    (v64 : Vec Ideal S128x128 .bf16) (i : Fin 16) (f : Fin 128) : EReal :=
  ∑ n : Fin 64, (∑ h : Fin 128, ssp (∑ q : Fin 25, v42 (ix2 (rn i n) q) * v43 (ix2 q h)) * v64 (ix2 h f)) * v13 (ix2 (rn i n) f)

/-- The first dense layer on the filtered sum, through the softplus before `log 2` is taken off. -/
theorem pay7_apply (v13 : FVec Ideal S1024x128 .f32) (v42 : FVec Ideal S1024x25 .bf16) (v43 : Vec Ideal S25x128 .bf16)
    (v64 : Vec Ideal S128x128 .bf16) (v70 : Vec Ideal S128x128 .f32) (i : Fin 16) (h : Fin 128) :
    k2_pay7 v13 v42 v43 v64 v70 (ix2 i h) - Ideal.log (Ideal.ofBits .f32 0x40000000#32)
      = ssp (rowMul (sum7 v13 v42 v43 v64 i) (fun a b => v70 (ix2 a b)) h) := by
  unfold k2_pay7
  pointwise
  simp only [ne_eq, not_true_eq_false, if_false, zero_sub]
  rfl

/-- The atom's new features. -/
theorem pay1_apply (v86 : FVec Ideal S16x128 .f32) (v90 : Vec Ideal S128x128 .f32) (v93 : Vec Ideal S1x16x128 .f32) (i : Fin 16) (f : Fin 128) :
    k2_pay1 v86 k2_pay8 v90 v93 (ix2 i f)
      = v93 (ix3 0 i f) + rowMul (fun h => v86 (ix2 i h) - Ideal.log (Ideal.ofBits .f32 0x40000000#32)) (fun a b => v90 (ix2 a b)) f := by
  unfold k2_pay1 k2_pay8
  pointwise
  rfl

/-- What a block's grid step stores in its first output. -/
theorem pay2_apply (v0 : Vec Ideal S1x16x64 .i32) (v10 : Vec Ideal S1x512x134 .bf16) (v19 : Vec Ideal S1x16x3 .f32)
    (v43 : Vec Ideal S25x128 .bf16) (v64 : Vec Ideal S128x128 .bf16) (v70 v90 : Vec Ideal S128x128 .f32) (v93 : Vec Ideal S1x16x128 .f32)
    (i : Fin 16) (f : Fin 128) (nb : Fin 64 → Fin 512) (hn : ∀ n, (v0 (ix3 0 i n)).toNat = (nb n).val) :
    k2_pay1 (k2_pay7 (k2_pay5 v0 v10) (k2_pay6 v0 v10 v19) v43 v64 v70) k2_pay8 v90 v93 (ix2 i f)
      = upd (fun a b => v70 (ix2 a b)) (fun a b => v90 (ix2 a b)) (fun f => v93 (ix3 0 i f))
          (agg (fun a b => v43 (ix2 a b)) (fun a b => v64 (ix2 a b)) (fun k => v19 (ix3 0 i k)) (fun n => pos2 v10 (nb n))
            (fun n f => v10 (ix3 0 (nb n) (f.castLE (by decide))))) f := by
  rw [pay1_apply]
  have hlt : ∀ n, (v0 (ix3 0 i n)).toNat < 512 := fun n => by rw [hn]; exact (nb n).isLt
  have hnb : ∀ n, (⟨(v0 (ix3 0 i n)).toNat, hlt n⟩ : Fin 512) = nb n := fun n => Fin.ext (hn n)
  have hs : sum7 (k2_pay5 v0 v10) (k2_pay6 v0 v10 v19) v43 v64 i
      = agg (fun a b => v43 (ix2 a b)) (fun a b => v64 (ix2 a b)) (fun k => v19 (ix3 0 i k)) (fun n => pos2 v10 (nb n))
            (fun n f => v10 (ix3 0 (nb n) (f.castLE (by decide)))) := by
    funext g
    unfold sum7 agg filt
    simp only [pay5_apply v0 v10 i _ _ (hlt _), pay6_apply v0 v10 v19 i _ _ (hlt _), hnb]
  simp only [pay7_apply, hs]
  rfl

/-- Its second output is the first times the next block's matrix. -/
theorem pay3_apply (v86 : FVec Ideal S16x128 .f32) (v90 v99 : Vec Ideal S128x128 .f32) (v93 : Vec Ideal S1x16x128 .f32) (i : Fin 16) (f : Fin 128) :
    k2_pay3 v86 k2_pay8 v90 v93 v99 (ix3 0 i f)
      = rowMul (fun h => k2_pay1 v86 k2_pay8 v90 v93 (ix2 i h)) (fun a b => v99 (ix2 a b)) f := by
  unfold k2_pay3
  pointwise
  rfl

/-- The first output is stored as it is. -/
theorem pay2_eq (v86 : FVec Ideal S16x128 .f32) (v90 : Vec Ideal S128x128 .f32) (v93 : Vec Ideal S1x16x128 .f32) (i : Fin 16) (f : Fin 128) :
    k2_pay2 v86 k2_pay8 v90 v93 (ix3 0 i f) = k2_pay1 v86 k2_pay8 v90 v93 (ix2 i f) := by
  unfold k2_pay2
  pointwise

/-- The last block's kernel is the first's. -/
theorem pay3_eq (v86 : FVec Ideal S16x128 .f32) (v90 : Vec Ideal S128x128 .f32) (v93 : Vec Ideal S1x16x128 .f32) :
    k3_pay1 v86 k3_pay6 v90 v93 = k2_pay2 v86 k2_pay8 v90 v93 := rfl

/-- The first dense layer of the first block, on a molecule's rows. -/
theorem proj_apply (v0 : Vec Ideal S512x128 .f32) (v2 : Vec Ideal S128x128 .f32) (i : Fin 512) (f : Fin 128) :
    k1_pay1 v0 v2 (ix2 i f) = rowMul (fun h => v0 (ix2 i h)) (fun a b => v2 (ix2 a b)) f := by
  unfold k1_pay1
  pointwise
  rfl

end Cert.Proof.Ker
-- ==== Proof.Ker.RegV.lean ====
/-
  What the three regions leave in their result arrays, as functions of the arrays they find.
-/
module

public import proofs.«01_k».proof.Proof.Ker.Region2
public import proofs.«01_k».proof.Proof.Ker.Region3
public import proofs.«01_k».proof.Proof.Ker.Region1
public import proofs.«01_k».proof.Proof.Ker.Pay
public import Idealize.ShloMosaic.Lib.Pipeline.ValueKit

@[expose] public section

set_option maxRecDepth 16384

noncomputable section

namespace Cert.Proof.Ker

open Cert.KernelIdeal Cert.KernelIdeal.Gen
open Idealize.ShloMosaic
open Idealize.ShloMosaic.TcCoe
open Idealize.ShloMosaic.Pipeline (Dat Cfg Window)
open Cert.Proof.Sch
open Idealize.ShloMosaic.ValueIdx hiding ix1 ix2 ix3 ix4 ix5 eq_ix1 eq_ix2 eq_ix3
open scoped BigOperators

variable (V : (c : Dev nD) → (b : Ref sig .tc) → Buf (Elt Ideal) ((c : Thread nD τ).loc b))

theorem idx1 : ∀ t : Fin cfg1.N, win1_0.index t = ![t.val, 0] ∧ win1_1.index t = ![0, 0] ∧ win1_2.index t = ![t.val, 0] :=
  (by decide +kernel : ∀ t : Fin grid1.N, _)

theorem z2 : (![0, 0] : Fin 2 → Nat) = fun _ => 0 := funext fun a => by fin_cases a <;> rfl
theorem z3 : (![0, 0, 0] : Fin 3 → Nat) = fun _ => 0 := funext fun a => by fin_cases a <;> rfl

/-- The projection's result: every row of the features times the matrix. -/
theorem arr1 (c : Dev nD) : (dat1 V c).arrAt 2 cfg1.N
    = fun j : S4096x128.Idx => rowMul (fun h => V c main_v1 (ix2 (j 0) h)) (fun a b => V c main_v4 (ix2 a b)) (j 1) := by
  refine (dat1 V c).arrAt_eq_of_covers 2 _ (by decide +kernel) fun t hf y => ?_
  blk_simp
  rw [after1_2]
  unfold out1_2
  rw [View.canon_unit_zero z2, View.ld_unit_zero z2, View.ld_unit_zero z2]
  obtain ⟨e0, e1, e2⟩ := idx1 t
  obtain ⟨i, f, rfl⟩ : ∃ (i : Fin 512) (f : Fin 128), y = ix2 i f := ⟨y 0, y 1, eq_ix2 y⟩
  refine (proj_apply _ _ i f).trans (Finset.sum_congr rfl fun h _ => ?_)
  refine congrArg₂ (· * ·) ?_ ?_
  · show iblk1 V c 0 t (ix2 i h) = V c main_v1 _
    blk_simp [iblk1]
    refine congrArg (V c main_v1) ?_
    blk_ext [e0, e2]
  · show iblk1 V c 1 t (ix2 h f) = V c main_v4 _
    blk_simp [iblk1]
    refine congrArg (V c main_v4) ?_
    blk_ext [e1, e2]

/-- The features a block's region writes: each atom's, from the positions, the table, the neighbours and what the features were. -/
def newX (pos : S8x512x3.Idx → EReal) (tab : S8x512x134.Idx → EReal) (x : S8x512x128.Idx → EReal) (w1 : S25x128.Idx → EReal)
    (w2 wo wd : S128x128.Idx → EReal) (nb : Fin 8 → Fin 512 → Fin 64 → Fin 512) (b : Fin 8) (i : Fin 512) : Fin 128 → EReal :=
  upd (fun p q => wo (ix2 p q)) (fun p q => wd (ix2 p q)) (fun f => x (ix3 b i f))
    (agg (fun p q => w1 (ix2 p q)) (fun p q => w2 (ix2 p q)) (fun k => pos (ix3 b i k))
      (fun n k => tab (ix3 b (nb b i n) ⟨128 + k.val, by omega⟩) + tab (ix3 b (nb b i n) ⟨131 + k.val, by omega⟩))
      (fun n f => tab (ix3 b (nb b i n) (f.castLE (by decide)))))

/-- One grid step's new features at row `a` of its block, from the step's blocks and the arrays they are blocks of. -/
theorem step_x (g : grid2.Coords) (x0 : Vec Ideal S1x512x3 .f32) (x1 : Vec Ideal S1x16x64 .i32) (x2 : Vec Ideal S1x16x128 .f32)
    (x3 : Vec Ideal S1x512x134 .bf16) (x4 : Vec Ideal S25x128 .bf16) (x5 : Vec Ideal S128x128 .bf16) (x6 x7 : Vec Ideal S128x128 .f32)
    (pos : S8x512x3.Idx → EReal) (tab : S8x512x134.Idx → EReal) (x : S8x512x128.Idx → EReal) (w1 : S25x128.Idx → EReal)
    (w2 wo wd : S128x128.Idx → EReal) (nb : Fin 8 → Fin 512 → Fin 64 → Fin 512)
    (b : Fin 8) (a : Fin 16) (i : Fin 512) (hr : i.val = 16 * (g 1).val + a.val) (f : Fin 128)
    (h0 : ∀ k, x0 (ix3 0 i k) = pos (ix3 b i k)) (h1 : ∀ n, (x1 (ix3 0 a n)).toNat = (nb b i n).val) (h2 : ∀ f, x2 (ix3 0 a f) = x (ix3 b i f))
    (h3 : ∀ r k, x3 (ix3 0 r k) = tab (ix3 b r k)) (h4 : ∀ p q, x4 (ix2 p q) = w1 (ix2 p q)) (h5 : ∀ p q, x5 (ix2 p q) = w2 (ix2 p q))
    (h6 : ∀ p q, x6 (ix2 p q) = wo (ix2 p q)) (h7 : ∀ p q, x7 (ix2 p q) = wd (ix2 p q)) :
    k2_pay1 (k2_pay7 (k2_pay5 x1 x3) (k2_pay6 x1 x3 (View.ld x0 (q2_pos g))) x4 x5 x6) (k2_pay8 (F := Ideal)) x7 x2 (ix2 a f)
      = newX pos tab x w1 w2 wo wd nb b i f := by
  refine (pay2_apply x1 x3 _ x4 x5 x6 x7 x2 a f (nb b i) h1).trans ?_
  have hp : (fun k : Fin 3 => (View.ld x0 (q2_pos g)) (ix3 0 a k)) = fun k => x0 (ix3 0 i k) := by
    funext k
    show x0 ((q2_pos g).emb (ix3 0 a k)) = _
    refine congrArg x0 (funext fun d => Fin.ext ?_)
    refine (ValueKit.rect_emb_unit_val _ _ _ _ d).trans ?_
    refine (congrArg (· + _) (congrFun (k2_off1_eq g) d)).trans ?_
    match d with
    | ⟨0, _⟩ => rfl
    | ⟨1, _⟩ => exact hr.symm
    | ⟨2, _⟩ => exact Nat.zero_add _
  have ep : (fun n : Fin 64 => pos2 x3 (nb b i n))
      = fun n k => tab (ix3 b (nb b i n) ⟨128 + k.val, by omega⟩) + tab (ix3 b (nb b i n) ⟨131 + k.val, by omega⟩) :=
    funext fun n => funext fun k => congrArg₂ (· + ·) (h3 _ _) (h3 _ _)
  have ey : (fun (n : Fin 64) (f : Fin 128) => x3 (ix3 0 (nb b i n) (f.castLE (by decide : 128 ≤ 134))))
      = fun n f => tab (ix3 b (nb b i n) (f.castLE (by decide))) := funext fun n => funext fun k => h3 _ _
  rw [hp, funext h0, ep, ey, funext h2, funext fun p => funext (h4 p), funext fun p => funext (h5 p), funext fun p => funext (h6 p),
    funext fun p => funext (h7 p)]
  unfold newX
  with_reducible rfl

theorem idx2 : ∀ t : Fin cfg2.N, (win2_0.index t = ![t.val / 32, 0, 0] ∧ win2_1.index t = ![t.val / 32, t.val % 32, 0]
    ∧ win2_2.index t = ![t.val / 32, t.val % 32, 0] ∧ win2_3.index t = ![t.val / 32, 0, 0]) ∧ (win2_4.index t = ![0, 0]
    ∧ win2_5.index t = ![0, 0] ∧ win2_6.index t = ![0, 0] ∧ win2_7.index t = ![0, 0] ∧ win2_8.index t = ![0, 0])
    ∧ win2_9.index t = ![t.val / 32, t.val % 32, 0] ∧ win2_10.index t = ![t.val / 32, t.val % 32, 0]
    ∧ ((grid2.coords t) 1).val = t.val % 32 :=
  (by decide +kernel : ∀ t : Fin grid2.N, _)

section Blocks2

variable (c : Dev nD) (t : Fin cfg2.N)

theorem blk2_0 (b : Fin 8) (hb : b.val = t.val / 32) (i : Fin 512) (k : Fin 3) : iblk2 V c 0 t (ix3 0 i k) = V c main_arg1 (ix3 b i k) := by
  obtain ⟨⟨e0, -⟩, -⟩ := idx2 t
  blk_simp [iblk2]
  refine congrArg (V c main_arg1) ?_
  blk_ext [e0, hb]
theorem blk2_1 (b : Fin 8) (hb : b.val = t.val / 32) (a : Fin 16) (i : Fin 512) (hi : i.val = t.val % 32 * 16 + a.val) (n : Fin 64) :
    iblk2 V c 1 t (ix3 0 a n) = V c main_arg4 (ix3 b i n) := by
  obtain ⟨⟨-, e1, -⟩, -⟩ := idx2 t
  blk_simp [iblk2]
  refine congrArg (V c main_arg4) ?_
  blk_ext [e1, hb, hi]
theorem blk2_2 (b : Fin 8) (hb : b.val = t.val / 32) (a : Fin 16) (i : Fin 512) (hi : i.val = t.val % 32 * 16 + a.val) (n : Fin 128) :
    iblk2 V c 2 t (ix3 0 a n) = V c main_v2 (ix3 b i n) := by
  obtain ⟨⟨-, -, e1, -⟩, -⟩ := idx2 t
  blk_simp [iblk2]
  refine congrArg (V c main_v2) ?_
  blk_ext [e1, hb, hi]
theorem blk2_3 (b : Fin 8) (hb : b.val = t.val / 32) (i : Fin 512) (k : Fin 134) : iblk2 V c 3 t (ix3 0 i k) = V c main_v14 (ix3 b i k) := by
  obtain ⟨⟨-, -, -, e0⟩, -⟩ := idx2 t
  blk_simp [iblk2]
  refine congrArg (V c main_v14) ?_
  blk_ext [e0, hb]
theorem blk2_4 (p : Fin 25) (q : Fin 128) : iblk2 V c 4 t (ix2 p q) = V c main_v17 (ix2 p q) := by
  obtain ⟨-, ⟨e, -⟩, -⟩ := idx2 t
  blk_simp [iblk2]
  refine congrArg (V c main_v17) ?_
  blk_ext [e]
theorem blk2_5 (p q : Fin 128) : iblk2 V c 5 t (ix2 p q) = V c main_v20 (ix2 p q) := by
  obtain ⟨-, ⟨-, e, -⟩, -⟩ := idx2 t
  blk_simp [iblk2]
  refine congrArg (V c main_v20) ?_
  blk_ext [e]
theorem blk2_6 (p q : Fin 128) : iblk2 V c 6 t (ix2 p q) = V c main_v22 (ix2 p q) := by
  obtain ⟨-, ⟨-, -, e, -⟩, -⟩ := idx2 t
  blk_simp [iblk2]
  refine congrArg (V c main_v22) ?_
  blk_ext [e]
theorem blk2_7 (p q : Fin 128) : iblk2 V c 7 t (ix2 p q) = V c main_v24 (ix2 p q) := by
  obtain ⟨-, ⟨-, -, -, e, -⟩, -⟩ := idx2 t
  blk_simp [iblk2]
  refine congrArg (V c main_v24) ?_
  blk_ext [e]
theorem blk2_8 (p q : Fin 128) : iblk2 V c 8 t (ix2 p q) = V c main_v12 (ix2 p q) := by
  obtain ⟨-, ⟨-, -, -, -, e⟩, -⟩ := idx2 t
  blk_simp [iblk2]
  refine congrArg (V c main_v12) ?_
  blk_ext [e]

end Blocks2

/-- One grid step of the first block, at row `i` of molecule `b`. -/
theorem step2 (c : Dev nD) (t : Fin cfg2.N) (nb : Fin 8 → Fin 512 → Fin 64 → Fin 512)
    (hn : ∀ b i n, ((V c main_arg4 : Vec Ideal S8x512x64 .i32) (ix3 b i n)).toNat = (nb b i n).val)
    (b : Fin 8) (hb : b.val = t.val / 32) (a : Fin 16) (i : Fin 512) (hi : i.val = t.val % 32 * 16 + a.val) (f : Fin 128) :
    k2_pay1 (k2_pay7 (k2_pay5 (iblk2 V c 1 t) (iblk2 V c 3 t)) (k2_pay6 (iblk2 V c 1 t) (iblk2 V c 3 t) (View.ld (iblk2 V c 0 t) (q2_pos (grid2.coords t))))
        (iblk2 V c 4 t) (iblk2 V c 5 t) (iblk2 V c 6 t)) (k2_pay8 (F := Ideal)) (iblk2 V c 7 t) (iblk2 V c 2 t) (ix2 a f)
      = newX (V c main_arg1) (V c main_v14) (V c main_v2) (V c main_v17) (V c main_v20) (V c main_v22) (V c main_v24) nb b i f := by
  obtain ⟨-, -, -, -, eg⟩ := idx2 t
  exact step_x (grid2.coords t) _ _ _ _ _ _ _ _ _ _ _ _ _ _ _ nb b a i (by rw [eg, hi]; omega) f (blk2_0 V c t b hb i)
    (fun n => (congrArg BitVec.toNat (blk2_1 V c t b hb a i hi n)).trans (hn b i n)) (blk2_2 V c t b hb a i hi) (blk2_3 V c t b hb)
    (blk2_4 V c t) (blk2_5 V c t) (blk2_6 V c t) (blk2_7 V c t)

/-- The first block's first result: the new features. -/
theorem arr2_9 (c : Dev nD) (nb : Fin 8 → Fin 512 → Fin 64 → Fin 512)
    (hn : ∀ b i n, ((V c main_arg4 : Vec Ideal S8x512x64 .i32) (ix3 b i n)).toNat = (nb b i n).val) :
    (dat2 V c).arrAt 9 cfg2.N
    = fun j : S8x512x128.Idx => newX (V c main_arg1) (V c main_v14) (V c main_v2) (V c main_v17) (V c main_v20) (V c main_v22) (V c main_v24) nb (j 0) (j 1) (j 2) := by
  refine (dat2 V c).arrAt_eq_of_covers 9 _ (by decide +kernel) fun t hf y => ?_
  blk_simp
  rw [after2_9]
  unfold out2_9
  rw [View.canon_unit_zero z3, View.ld_unit_zero (S := S1x16x64) z3, View.ld_unit_zero (S := S1x512x134) z3, View.ld_unit_zero (S := S1x16x128) z3,
    View.ld_unit_zero (S := S25x128) z2, View.ld_unit_zero (S := S128x128) z2, View.ld_unit_zero (S := S128x128) z2, View.ld_unit_zero (S := S128x128) z2]
  obtain ⟨-, -, e, -⟩ := idx2 t
  obtain ⟨o, a, f, rfl⟩ : ∃ (o : Fin 1) (a : Fin 16) (f : Fin 128), y = ix3 o a f := ⟨y 0, y 1, y 2, eq_ix3 y⟩
  obtain rfl : o = 0 := Subsingleton.elim _ _
  refine (pay2_eq _ _ _ a f).trans ?_
  refine (step2 V c t nb hn ((win2_9.blk t).view.emb (ix3 0 a f) 0) ?_ a ((win2_9.blk t).view.emb (ix3 0 a f) 1) ?_ f).trans ?_
  · blk_simp [e]; rfl
  · blk_simp [e]
  · refine congrArg (newX _ _ _ _ _ _ _ _ _ _) (Fin.ext ?_)
    blk_simp [e]

/-- The first block's second result: the new features times the next block's first matrix. -/
theorem arr2_10 (c : Dev nD) (nb : Fin 8 → Fin 512 → Fin 64 → Fin 512)
    (hn : ∀ b i n, ((V c main_arg4 : Vec Ideal S8x512x64 .i32) (ix3 b i n)).toNat = (nb b i n).val) :
    (dat2 V c).arrAt 10 cfg2.N
    = fun j : S8x512x128.Idx => rowMul (newX (V c main_arg1) (V c main_v14) (V c main_v2) (V c main_v17) (V c main_v20) (V c main_v22) (V c main_v24) nb (j 0) (j 1))
        (fun p q => V c main_v12 (ix2 p q)) (j 2) := by
  refine (dat2 V c).arrAt_eq_of_covers 10 _ (by decide +kernel) fun t hf y => ?_
  blk_simp
  rw [after2_10]
  unfold out2_10
  rw [View.canon_unit_zero z3, View.ld_unit_zero (S := S1x16x64) z3, View.ld_unit_zero (S := S1x512x134) z3, View.ld_unit_zero (S := S1x16x128) z3,
    View.ld_unit_zero (S := S25x128) z2, View.ld_unit_zero (S := S128x128) z2, View.ld_unit_zero (S := S128x128) z2, View.ld_unit_zero (S := S128x128) z2,
    View.ld_unit_zero (S := S128x128) z2]
  obtain ⟨-, -, -, e, -⟩ := idx2 t
  obtain ⟨o, a, f, rfl⟩ : ∃ (o : Fin 1) (a : Fin 16) (f : Fin 128), y = ix3 o a f := ⟨y 0, y 1, y 2, eq_ix3 y⟩
  obtain rfl : o = 0 := Subsingleton.elim _ _
  refine (pay3_apply _ _ _ _ a f).trans ?_
  have hf2 : (win2_10.blk t).view.emb (ix3 0 a f) 2 = f := Fin.ext (by blk_simp [e])
  rw [hf2]
  refine Finset.sum_congr rfl fun h _ => congrArg₂ (· * ·) ?_ (blk2_8 V c t h f)
  refine step2 V c t nb hn ((win2_10.blk t).view.emb (ix3 0 a f) 0) ?_ a ((win2_10.blk t).view.emb (ix3 0 a f) 1) ?_ h
  · blk_simp [e]; rfl
  · blk_simp [e]

end Cert.Proof.Ker

end
-- ==== Proof.Ker.RegV3.lean ====
/-
  What the last region leaves in its result array, as a function of the arrays it finds.
-/
module

public import proofs.«01_k».proof.Proof.Ker.RegV
public import Idealize.ShloMosaic.Lib.Pipeline.ValueKit

@[expose] public section

set_option maxRecDepth 16384

noncomputable section

namespace Cert.Proof.Ker

open Cert.KernelIdeal Cert.KernelIdeal.Gen
open Idealize.ShloMosaic
open Idealize.ShloMosaic.TcCoe
open Idealize.ShloMosaic.Pipeline (Dat Cfg Window)
open Cert.Proof.Sch
open Idealize.ShloMosaic.ValueIdx hiding ix1 ix2 ix3 ix4 ix5 eq_ix1 eq_ix2 eq_ix3
open scoped BigOperators

variable (V : (c : Dev nD) → (b : Ref sig .tc) → Buf (Elt Ideal) ((c : Thread nD τ).loc b))

theorem idx3 : ∀ t : Fin cfg3.N, (win3_0.index t = ![t.val / 32, 0, 0] ∧ win3_1.index t = ![t.val / 32, t.val % 32, 0]
    ∧ win3_2.index t = ![t.val / 32, t.val % 32, 0] ∧ win3_3.index t = ![t.val / 32, 0, 0]) ∧ (win3_4.index t = ![0, 0]
    ∧ win3_5.index t = ![0, 0] ∧ win3_6.index t = ![0, 0] ∧ win3_7.index t = ![0, 0] ∧ win3_8.index t = ![0, 0])
    ∧ win3_9.index t = ![t.val / 32, t.val % 32, 0]
    ∧ ((grid3.coords t) 1).val = t.val % 32 :=
  (by decide +kernel : ∀ t : Fin grid3.N, _)

section Blocks2

variable (c : Dev nD) (t : Fin cfg3.N)

theorem blk3_0 (b : Fin 8) (hb : b.val = t.val / 32) (i : Fin 512) (k : Fin 3) : iblk3 V c 0 t (ix3 0 i k) = V c main_arg1 (ix3 b i k) := by
  obtain ⟨⟨e0, -⟩, -⟩ := idx3 t
  blk_simp [iblk3]
  refine congrArg (V c main_arg1) ?_
  blk_ext [e0, hb]
theorem blk3_1 (b : Fin 8) (hb : b.val = t.val / 32) (a : Fin 16) (i : Fin 512) (hi : i.val = t.val % 32 * 16 + a.val) (n : Fin 64) :
    iblk3 V c 1 t (ix3 0 a n) = V c main_arg4 (ix3 b i n) := by
  obtain ⟨⟨-, e1, -⟩, -⟩ := idx3 t
  blk_simp [iblk3]
  refine congrArg (V c main_arg4) ?_
  blk_ext [e1, hb, hi]
theorem blk3_2 (b : Fin 8) (hb : b.val = t.val / 32) (a : Fin 16) (i : Fin 512) (hi : i.val = t.val % 32 * 16 + a.val) (n : Fin 128) :
    iblk3 V c 2 t (ix3 0 a n) = V c main_v25_0 (ix3 b i n) := by
  obtain ⟨⟨-, -, e1, -⟩, -⟩ := idx3 t
  blk_simp [iblk3]
  refine congrArg (V c main_v25_0) ?_
  blk_ext [e1, hb, hi]
theorem blk3_3 (b : Fin 8) (hb : b.val = t.val / 32) (i : Fin 512) (k : Fin 134) : iblk3 V c 3 t (ix3 0 i k) = V c main_v29 (ix3 b i k) := by
  obtain ⟨⟨-, -, -, e0⟩, -⟩ := idx3 t
  blk_simp [iblk3]
  refine congrArg (V c main_v29) ?_
  blk_ext [e0, hb]
theorem blk3_4 (p : Fin 25) (q : Fin 128) : iblk3 V c 4 t (ix2 p q) = V c main_v32 (ix2 p q) := by
  obtain ⟨-, ⟨e, -⟩, -⟩ := idx3 t
  blk_simp [iblk3]
  refine congrArg (V c main_v32) ?_
  blk_ext [e]
theorem blk3_5 (p q : Fin 128) : iblk3 V c 5 t (ix2 p q) = V c main_v35 (ix2 p q) := by
  obtain ⟨-, ⟨-, e, -⟩, -⟩ := idx3 t
  blk_simp [iblk3]
  refine congrArg (V c main_v35) ?_
  blk_ext [e]
theorem blk3_6 (p q : Fin 128) : iblk3 V c 6 t (ix2 p q) = V c main_v37 (ix2 p q) := by
  obtain ⟨-, ⟨-, -, e, -⟩, -⟩ := idx3 t
  blk_simp [iblk3]
  refine congrArg (V c main_v37) ?_
  blk_ext [e]
theorem blk3_7 (p q : Fin 128) : iblk3 V c 7 t (ix2 p q) = V c main_v39 (ix2 p q) := by
  obtain ⟨-, ⟨-, -, -, e, -⟩, -⟩ := idx3 t
  blk_simp [iblk3]
  refine congrArg (V c main_v39) ?_
  blk_ext [e]
theorem blk3_8 (p q : Fin 128) : iblk3 V c 8 t (ix2 p q) = V c main_v27 (ix2 p q) := by
  obtain ⟨-, ⟨-, -, -, -, e⟩, -⟩ := idx3 t
  blk_simp [iblk3]
  refine congrArg (V c main_v27) ?_
  blk_ext [e]

end Blocks2

/-- One grid step of the last block, at row `i` of molecule `b`. -/
theorem step3 (c : Dev nD) (t : Fin cfg3.N) (nb : Fin 8 → Fin 512 → Fin 64 → Fin 512)
    (hn : ∀ b i n, ((V c main_arg4 : Vec Ideal S8x512x64 .i32) (ix3 b i n)).toNat = (nb b i n).val)
    (b : Fin 8) (hb : b.val = t.val / 32) (a : Fin 16) (i : Fin 512) (hi : i.val = t.val % 32 * 16 + a.val) (f : Fin 128) :
    k2_pay1 (k2_pay7 (k2_pay5 (iblk3 V c 1 t) (iblk3 V c 3 t)) (k2_pay6 (iblk3 V c 1 t) (iblk3 V c 3 t) (View.ld (iblk3 V c 0 t) (q2_pos (grid3.coords t))))
        (iblk3 V c 4 t) (iblk3 V c 5 t) (iblk3 V c 6 t)) (k2_pay8 (F := Ideal)) (iblk3 V c 7 t) (iblk3 V c 2 t) (ix2 a f)
      = newX (V c main_arg1) (V c main_v29) (V c main_v25_0) (V c main_v32) (V c main_v35) (V c main_v37) (V c main_v39) nb b i f := by
  obtain ⟨-, -, -, eg⟩ := idx3 t
  exact step_x (grid3.coords t : grid2.Coords) _ _ _ _ _ _ _ _ _ _ _ _ _ _ _ nb b a i (by rw [eg, hi]; omega) f (blk3_0 V c t b hb i)
    (fun n => (congrArg BitVec.toNat (blk3_1 V c t b hb a i hi n)).trans (hn b i n)) (blk3_2 V c t b hb a i hi) (blk3_3 V c t b hb)
    (blk3_4 V c t) (blk3_5 V c t) (blk3_6 V c t) (blk3_7 V c t)

/-- The last block's result: the new features. -/
theorem arr3_9 (c : Dev nD) (nb : Fin 8 → Fin 512 → Fin 64 → Fin 512)
    (hn : ∀ b i n, ((V c main_arg4 : Vec Ideal S8x512x64 .i32) (ix3 b i n)).toNat = (nb b i n).val) :
    (dat3 V c).arrAt 9 cfg3.N
    = fun j : S8x512x128.Idx => newX (V c main_arg1) (V c main_v29) (V c main_v25_0) (V c main_v32) (V c main_v35) (V c main_v37) (V c main_v39) nb (j 0) (j 1) (j 2) := by
  refine (dat3 V c).arrAt_eq_of_covers 9 _ (by decide +kernel) fun t hf y => ?_
  blk_simp
  rw [after3_9]
  unfold out3_9
  rw [View.canon_unit_zero z3, View.ld_unit_zero (S := S1x16x64) z3, View.ld_unit_zero (S := S1x512x134) z3, View.ld_unit_zero (S := S1x16x128) z3,
    View.ld_unit_zero (S := S25x128) z2, View.ld_unit_zero (S := S128x128) z2, View.ld_unit_zero (S := S128x128) z2, View.ld_unit_zero (S := S128x128) z2]
  obtain ⟨-, -, e, -⟩ := idx3 t
  obtain ⟨o, a, f, rfl⟩ : ∃ (o : Fin 1) (a : Fin 16) (f : Fin 128), y = ix3 o a f := ⟨y 0, y 1, y 2, eq_ix3 y⟩
  obtain rfl : o = 0 := Subsingleton.elim _ _
  rw [pay3_eq]
  refine (pay2_eq _ _ _ a f).trans ?_
  refine (step3 V c t nb hn ((win3_9.blk t).view.emb (ix3 0 a f) 0) ?_ a ((win3_9.blk t).view.emb (ix3 0 a f) 1) ?_ f).trans ?_
  · blk_simp [e]; rfl
  · blk_simp [e]
  · refine congrArg (newX _ _ _ _ _ _ _ _ _ _) (Fin.ext ?_)
    blk_simp [e]

end Cert.Proof.Ker

end
-- ==== Proof.Ker.HostV.lean ====
/-
  The arrays between the regions, and the kernel's result as the two blocks of the network.
-/
module

public import proofs.«01_k».proof.Proof.Ker.Fold
public import proofs.«01_k».proof.Proof.Ker.RegV3

@[expose] public section

set_option maxRecDepth 16384

noncomputable section

namespace Cert.Proof.Ker

open Cert.KernelIdeal Cert.KernelIdeal.Gen
open Idealize.ShloMosaic
open Idealize.ShloMosaic.TcCoe
open Idealize.ShloMosaic.Pipeline (Dat Cfg Window)
open Idealize.ShloMosaic.StableHlo
open Cert.Proof.Sch
open Idealize.ShloMosaic.ValueIdx hiding ix1 ix2 ix3 ix4 ix5 eq_ix1 eq_ix2 eq_ix3
open scoped BigOperators

variable (X : Dev nD → Valuation τ sig (Elt Ideal))

theorem A1_v2 (c : Dev nD) (b : Fin 8) (i : Fin 512) (f : Fin 128) :
    (A1 X c (Proc.devRef .tc main_v2) : S8x512x128.Idx → EReal) (ix3 b i f)
      = (X c (Proc.devRef .tc main_v1) : S4096x128.Idx → EReal) (ix2 ⟨b.val * 512 + i.val, by omega⟩ f) := by
  have h : A1 X c (Proc.devRef .tc main_v2) = shapeCast S8x512x128 (X c (Proc.devRef .tc main_v1)) shapeCasts_S4096x128_S8x512x128 := by
    after_results
    rfl
  rw [h]
  pointwise

theorem A1_v4 (c : Dev nD) (p q : Fin 128) :
    (A1 X c (Proc.devRef .tc main_v4) : S128x128.Idx → EReal) (ix2 p q)
      = (X c (Proc.devRef .tc main_arg11) : S2x128x128.Idx → EReal) (ix3 0 p q) := by
  have h : A1 X c (Proc.devRef .tc main_v4) = shapeCast S128x128 (extractStridedSlice S1x128x128 ![0, 0, 0] (X c (Proc.devRef .tc main_arg11)) slices_S2x128x128_S1x128x128_0_0_0) shapeCasts_S1x128x128_S128x128 := by
    after_results
    rfl
  rw [h]
  pointwise

/-- The table from its three parts. -/
def cat3 (y : S8x512x128.Idx → EReal) (p l : S8x512x3.Idx → EReal) : S8x512x134.Idx → EReal :=
  concatenate S8x512x134 2 [⟨S8x512x128, y⟩, ⟨S8x512x3, p⟩, ⟨S8x512x3, l⟩] concatenates_S8x512x128_S8x512x3_S8x512x3_S8x512x134_d2

theorem cat3_y (y : S8x512x128.Idx → EReal) (p l : S8x512x3.Idx → EReal) (b : Fin 8) (i : Fin 512) (f : Fin 128) :
    cat3 y p l (ix3 b i (f.castLE (by decide))) = y (ix3 b i f) := by
  unfold cat3; pointwise
  exact dif_pos f.isLt
theorem cat3_p (y : S8x512x128.Idx → EReal) (p l : S8x512x3.Idx → EReal) (b : Fin 8) (i : Fin 512) (k : Fin 3) :
    cat3 y p l (ix3 b i ⟨128 + k.val, by omega⟩) = p (ix3 b i k) := by
  unfold cat3; pointwise
theorem cat3_l (y : S8x512x128.Idx → EReal) (p l : S8x512x3.Idx → EReal) (b : Fin 8) (i : Fin 512) (k : Fin 3) :
    cat3 y p l (ix3 b i ⟨131 + k.val, by omega⟩) = l (ix3 b i k) := by
  unfold cat3; pointwise
  rw [dif_neg (by omega), dif_neg (by omega)]
  exact congrArg (fun k => l (ix3 b i k)) (Fin.ext (by show 131 + k.val - 128 - 3 = k.val; omega))
theorem cat3_congr {y y' : S8x512x128.Idx → EReal} {p p' l l' : S8x512x3.Idx → EReal} (hy : y = y') (hp : p = p') (hl : l = l') :
    cat3 y p l = cat3 y' p' l' := by rw [hy, hp, hl]

/-- The difference of an array with itself. -/
def self0 (p : S8x512x3.Idx → EReal) : S8x512x3.Idx → EReal := fun j => p j - p j

theorem A2_v14 (c : Dev nD) :
    A2 X c (Proc.devRef .tc main_v14) = cat3 (shapeCast S8x512x128 (B1 X c (Proc.devRef .tc main_v5)) shapeCasts_S4096x128_S8x512x128)
      (X c (Proc.devRef .tc main_arg1)) (self0 (X c (Proc.devRef .tc main_arg1))) := by
  rw [← B1_args X c main_arg1 (by decide)]
  after_results
  refine cat3_congr ?_ ?_ ?_
  · after_results; rfl
  · after_results; rfl
  · after_results; rfl

theorem A2_v12 (c : Dev nD) (p : Fin 128) (q : Fin 128) :
    (A2 X c (Proc.devRef .tc main_v12) : S128x128.Idx → EReal) (ix2 p q)
      = (X c (Proc.devRef .tc main_arg11) : S2x128x128.Idx → EReal) (ix3 1 p q) := by
  have h : A2 X c (Proc.devRef .tc main_v12) = shapeCast S128x128 (extractStridedSlice S1x128x128 ![1, 0, 0] (B1 X c (Proc.devRef .tc main_arg11)) slices_S2x128x128_S1x128x128_1_0_0) shapeCasts_S1x128x128_S128x128 := by
    after_results
    rfl
  rw [h, B1_args X c main_arg11 (by decide)]
  pointwise

theorem A2_v17 (c : Dev nD) (p : Fin 25) (q : Fin 128) :
    (A2 X c (Proc.devRef .tc main_v17) : S25x128.Idx → EReal) (ix2 p q)
      = (X c (Proc.devRef .tc main_arg7) : S2x25x128.Idx → EReal) (ix3 0 p q) := by
  have h : A2 X c (Proc.devRef .tc main_v17) = (truncf .bf16 (shapeCast S25x128 (extractStridedSlice S1x25x128 ![0, 0, 0] (B1 X c (Proc.devRef .tc main_arg7)) slices_S2x25x128_S1x25x128_0_0_0) shapeCasts_S1x25x128_S25x128 : FVec Ideal S25x128 .f32) bitsLt_bf16_f32 : FVec Ideal S25x128 .bf16) := by
    after_results
    rfl
  rw [h, B1_args X c main_arg7 (by decide)]
  pointwise

theorem A2_v20 (c : Dev nD) (p : Fin 128) (q : Fin 128) :
    (A2 X c (Proc.devRef .tc main_v20) : S128x128.Idx → EReal) (ix2 p q)
      = (X c (Proc.devRef .tc main_arg9) : S2x128x128.Idx → EReal) (ix3 0 p q) := by
  have h : A2 X c (Proc.devRef .tc main_v20) = (truncf .bf16 (shapeCast S128x128 (extractStridedSlice S1x128x128 ![0, 0, 0] (B1 X c (Proc.devRef .tc main_arg9)) slices_S2x128x128_S1x128x128_0_0_0) shapeCasts_S1x128x128_S128x128 : FVec Ideal S128x128 .f32) bitsLt_bf16_f32 : FVec Ideal S128x128 .bf16) := by
    after_results
    rfl
  rw [h, B1_args X c main_arg9 (by decide)]
  pointwise

theorem A2_v22 (c : Dev nD) (p : Fin 128) (q : Fin 128) :
    (A2 X c (Proc.devRef .tc main_v22) : S128x128.Idx → EReal) (ix2 p q)
      = (X c (Proc.devRef .tc main_arg12) : S2x128x128.Idx → EReal) (ix3 0 p q) := by
  have h : A2 X c (Proc.devRef .tc main_v22) = shapeCast S128x128 (extractStridedSlice S1x128x128 ![0, 0, 0] (B1 X c (Proc.devRef .tc main_arg12)) slices_S2x128x128_S1x128x128_0_0_0) shapeCasts_S1x128x128_S128x128 := by
    after_results
    rfl
  rw [h, B1_args X c main_arg12 (by decide)]
  pointwise

theorem A2_v24 (c : Dev nD) (p : Fin 128) (q : Fin 128) :
    (A2 X c (Proc.devRef .tc main_v24) : S128x128.Idx → EReal) (ix2 p q)
      = (X c (Proc.devRef .tc main_arg14) : S2x128x128.Idx → EReal) (ix3 0 p q) := by
  have h : A2 X c (Proc.devRef .tc main_v24) = shapeCast S128x128 (extractStridedSlice S1x128x128 ![0, 0, 0] (B1 X c (Proc.devRef .tc main_arg14)) slices_S2x128x128_S1x128x128_0_0_0) shapeCasts_S1x128x128_S128x128 := by
    after_results
    rfl
  rw [h, B1_args X c main_arg14 (by decide)]
  pointwise

theorem A3_v32 (c : Dev nD) (p : Fin 25) (q : Fin 128) :
    (A3 X c (Proc.devRef .tc main_v32) : S25x128.Idx → EReal) (ix2 p q)
      = (X c (Proc.devRef .tc main_arg7) : S2x25x128.Idx → EReal) (ix3 1 p q) := by
  have h : A3 X c (Proc.devRef .tc main_v32) = (truncf .bf16 (shapeCast S25x128 (extractStridedSlice S1x25x128 ![1, 0, 0] (B2 X c (Proc.devRef .tc main_arg7)) slices_S2x25x128_S1x25x128_1_0_0) shapeCasts_S1x25x128_S25x128 : FVec Ideal S25x128 .f32) bitsLt_bf16_f32 : FVec Ideal S25x128 .bf16) := by
    after_results
    rfl
  rw [h, B2_args X c main_arg7 (by decide)]
  pointwise

theorem A3_v35 (c : Dev nD) (p : Fin 128) (q : Fin 128) :
    (A3 X c (Proc.devRef .tc main_v35) : S128x128.Idx → EReal) (ix2 p q)
      = (X c (Proc.devRef .tc main_arg9) : S2x128x128.Idx → EReal) (ix3 1 p q) := by
  have h : A3 X c (Proc.devRef .tc main_v35) = (truncf .bf16 (shapeCast S128x128 (extractStridedSlice S1x128x128 ![1, 0, 0] (B2 X c (Proc.devRef .tc main_arg9)) slices_S2x128x128_S1x128x128_1_0_0) shapeCasts_S1x128x128_S128x128 : FVec Ideal S128x128 .f32) bitsLt_bf16_f32 : FVec Ideal S128x128 .bf16) := by
    after_results
    rfl
  rw [h, B2_args X c main_arg9 (by decide)]
  pointwise

theorem A3_v37 (c : Dev nD) (p : Fin 128) (q : Fin 128) :
    (A3 X c (Proc.devRef .tc main_v37) : S128x128.Idx → EReal) (ix2 p q)
      = (X c (Proc.devRef .tc main_arg12) : S2x128x128.Idx → EReal) (ix3 1 p q) := by
  have h : A3 X c (Proc.devRef .tc main_v37) = shapeCast S128x128 (extractStridedSlice S1x128x128 ![1, 0, 0] (B2 X c (Proc.devRef .tc main_arg12)) slices_S2x128x128_S1x128x128_1_0_0) shapeCasts_S1x128x128_S128x128 := by
    after_results
    rfl
  rw [h, B2_args X c main_arg12 (by decide)]
  pointwise

theorem A3_v39 (c : Dev nD) (p : Fin 128) (q : Fin 128) :
    (A3 X c (Proc.devRef .tc main_v39) : S128x128.Idx → EReal) (ix2 p q)
      = (X c (Proc.devRef .tc main_arg14) : S2x128x128.Idx → EReal) (ix3 1 p q) := by
  have h : A3 X c (Proc.devRef .tc main_v39) = shapeCast S128x128 (extractStridedSlice S1x128x128 ![1, 0, 0] (B2 X c (Proc.devRef .tc main_arg14)) slices_S2x128x128_S1x128x128_1_0_0) shapeCasts_S1x128x128_S128x128 := by
    after_results
    rfl
  rw [h, B2_args X c main_arg14 (by decide)]
  pointwise

/-- The halves of the positions as the first block finds them. -/
theorem A2_v7 (c : Dev nD) : (A2 X c (Proc.devRef .tc main_v7) : S8x512x3.Idx → EReal) = X c (Proc.devRef .tc main_arg1) := by
  rw [← B1_args X c main_arg1 (by decide)]
  after_results; rfl
theorem A2_v10 (c : Dev nD) : (A2 X c (Proc.devRef .tc main_v10) : S8x512x3.Idx → EReal) = self0 (X c (Proc.devRef .tc main_arg1)) := by
  rw [← B1_args X c main_arg1 (by decide)]
  after_results; rfl

theorem A3_v29 (c : Dev nD) :
    A3 X c (Proc.devRef .tc main_v29) = cat3 (B2 X c (Proc.devRef .tc main_v25_1)) (X c (Proc.devRef .tc main_arg1)) (self0 (X c (Proc.devRef .tc main_arg1))) := by
  rw [← A2_v10 X c, ← A2_v7 X c, ← B2_of X c main_v7 (by decide +kernel), ← B2_of X c main_v10 (by decide +kernel)]
  after_results
  refine cat3_congr ?_ ?_ ?_
  · after_results; rfl
  · after_results; rfl
  · after_results; rfl

theorem rowMul_congr {x x' : Fin 128 → EReal} {w w' : Fin 128 → Fin 128 → EReal} (f : Fin 128) (hx : ∀ h, x h = x' h) (hw : ∀ h q, w h q = w' h q) :
    rowMul x w f = rowMul x' w' f := by
  unfold rowMul; exact Finset.sum_congr rfl fun h _ => by rw [hx, hw]

/-- A filtered sum whose neighbours' positions come as their halves. -/
theorem agg_split (w1 : Fin 25 → Fin 128 → EReal) (w2 : Fin 128 → Fin 128 → EReal) (pi : Fin 3 → EReal) (pj : Fin 64 → Fin 3 → EReal)
    (y : Fin 64 → Fin 128 → EReal) : agg w1 w2 pi (fun n k => pj n k + (pj n k - pj n k)) y = agg w1 w2 pi pj y := by
  funext f
  unfold agg
  exact Finset.sum_congr rfl fun n _ => by rw [dist_split]

/-- A region's new features are the network's block, when its table holds the neighbours' features and both halves of the positions. -/
theorem newX_block (pos : S8x512x3.Idx → EReal) (y : S8x512x128.Idx → EReal) (x : S8x512x128.Idx → EReal) (w1 : S25x128.Idx → EReal)
    (w2 wo wd : S128x128.Idx → EReal) (nb : Fin 8 → Fin 512 → Fin 64 → Fin 512)
    (x' : Fin 8 → Fin 512 → Fin 128 → EReal) (w1' : Fin 25 → Fin 128 → EReal) (w2' wi' wo' wd' : Fin 128 → Fin 128 → EReal)
    (hy : ∀ b i f, y (ix3 b i f) = rowMul (x' b i) wi' f) (hx : ∀ b i f, x (ix3 b i f) = x' b i f) (h1 : ∀ p q, w1 (ix2 p q) = w1' p q)
    (h2 : ∀ p q, w2 (ix2 p q) = w2' p q) (ho : ∀ p q, wo (ix2 p q) = wo' p q) (hd : ∀ p q, wd (ix2 p q) = wd' p q)
    (b : Fin 8) (i : Fin 512) :
    newX pos (cat3 y pos (self0 pos)) x w1 w2 wo wd nb b i = block w1' w2' wi' wo' wd' (fun b i k => pos (ix3 b i k)) nb x' b i := by
  have ep : (fun (n : Fin 64) (k : Fin 3) => cat3 y pos (self0 pos) (ix3 b (nb b i n) ⟨128 + k.val, by omega⟩) + cat3 y pos (self0 pos) (ix3 b (nb b i n) ⟨131 + k.val, by omega⟩))
      = fun n k => pos (ix3 b (nb b i n) k) + (pos (ix3 b (nb b i n) k) - pos (ix3 b (nb b i n) k)) :=
    funext fun n => funext fun k => congrArg₂ (· + ·) (cat3_p ..) (cat3_l ..)
  have ey : (fun (n : Fin 64) (f : Fin 128) => cat3 y pos (self0 pos) (ix3 b (nb b i n) (f.castLE (by decide : 128 ≤ 134))))
      = fun n => rowMul (x' b (nb b i n)) wi' := funext fun n => funext fun k => (cat3_y ..).trans (hy ..)
  unfold newX block
  rw [ep, ey, agg_split (pj := fun n k => pos (ix3 b (nb b i n) k)), funext (hx b i), funext fun p => funext (h1 p), funext fun p => funext (h2 p),
    funext fun p => funext (ho p), funext fun p => funext (hd p)]

section Result

variable (c : Dev nD)

/-- The network's inputs, as the kernel's arrays hold them once the embedding rows are gathered. -/
def pos : Fin 8 → Fin 512 → Fin 3 → EReal := fun b i k => (X c (Proc.devRef .tc main_arg1) : S8x512x3.Idx → EReal) (ix3 b i k)
def emb : Fin 8 → Fin 512 → Fin 128 → EReal := fun b i f => (X c (Proc.devRef .tc main_v1) : S4096x128.Idx → EReal) (ix2 ⟨b.val * 512 + i.val, by omega⟩ f)
def w1 (l : Fin 2) : Fin 25 → Fin 128 → EReal := fun p q => (X c (Proc.devRef .tc main_arg7) : S2x25x128.Idx → EReal) (ix3 l p q)
def w2 (l : Fin 2) : Fin 128 → Fin 128 → EReal := fun p q => (X c (Proc.devRef .tc main_arg9) : S2x128x128.Idx → EReal) (ix3 l p q)
def wi (l : Fin 2) : Fin 128 → Fin 128 → EReal := fun p q => (X c (Proc.devRef .tc main_arg11) : S2x128x128.Idx → EReal) (ix3 l p q)
def wo (l : Fin 2) : Fin 128 → Fin 128 → EReal := fun p q => (X c (Proc.devRef .tc main_arg12) : S2x128x128.Idx → EReal) (ix3 l p q)
def wd (l : Fin 2) : Fin 128 → Fin 128 → EReal := fun p q => (X c (Proc.devRef .tc main_arg14) : S2x128x128.Idx → EReal) (ix3 l p q)

variable (nb : Fin 8 → Fin 512 → Fin 64 → Fin 512)

/-- The features after the first block and after both. -/
def x1 : Fin 8 → Fin 512 → Fin 128 → EReal := block (w1 X c 0) (w2 X c 0) (wi X c 0) (wo X c 0) (wd X c 0) (pos X c) nb (emb X c)
def x2 : Fin 8 → Fin 512 → Fin 128 → EReal := block (w1 X c 1) (w2 X c 1) (wi X c 1) (wo X c 1) (wd X c 1) (pos X c) nb (x1 X c nb)

theorem B1_v5 (b : Fin 8) (i : Fin 512) (f : Fin 128) :
    (B1 X c (Proc.devRef .tc main_v5) : S4096x128.Idx → EReal) (ix2 ⟨b.val * 512 + i.val, by omega⟩ f) = rowMul (emb X c b i) (wi X c 0) f := by
  have h : (B1 X c (Proc.devRef .tc main_v5) : S4096x128.Idx → EReal) = _ := (B1_arr X c 2).trans (arr1 (VA1 X) c)
  rw [h]
  refine rowMul_congr f (fun h => ?_) (A1_v4 X c)
  exact congrFun (A1_of X c main_v1 (by decide +kernel)) _

theorem A2_v2 (b : Fin 8) (i : Fin 512) (f : Fin 128) : (A2 X c (Proc.devRef .tc main_v2) : S8x512x128.Idx → EReal) (ix3 b i f) = emb X c b i f := by
  rw [A2_of X c main_v2 (by decide +kernel), B1_of X c main_v2 (by decide +kernel)]
  exact A1_v2 X c b i f

variable (hn : ∀ b i n, ((X c (Proc.devRef .tc main_arg4) : Vec Ideal S8x512x64 .i32) (ix3 b i n)).toNat = (nb b i n).val)

include hn in
theorem new2 (b : Fin 8) (i : Fin 512) : newX (VA2 X c main_arg1) (VA2 X c main_v14) (VA2 X c main_v2) (VA2 X c main_v17) (VA2 X c main_v20) (VA2 X c main_v22) (VA2 X c main_v24) nb b i
    = x1 X c nb b i := by
  rw [show VA2 X c main_arg1 = X c (Proc.devRef .tc main_arg1) from A2_args X c main_arg1 (by decide), show VA2 X c main_v14 = _ from A2_v14 X c]
  refine newX_block _ _ _ _ _ _ _ nb (emb X c) (w1 X c 0) (w2 X c 0) (wi X c 0) (wo X c 0) (wd X c 0) (fun b i f => ?_) (A2_v2 X c) (A2_v17 X c) (A2_v20 X c)
    (A2_v22 X c) (A2_v24 X c) b i
  refine Eq.trans ?_ (B1_v5 X c b i f)
  pointwise

include hn in
theorem hn2 : ∀ b i n, ((VA2 X c main_arg4 : Vec Ideal S8x512x64 .i32) (ix3 b i n)).toNat = (nb b i n).val := by
  rw [show VA2 X c main_arg4 = X c (Proc.devRef .tc main_arg4) from A2_args X c main_arg4 (by decide)]; exact hn

include hn in
theorem hn3 : ∀ b i n, ((VA3 X c main_arg4 : Vec Ideal S8x512x64 .i32) (ix3 b i n)).toNat = (nb b i n).val := by
  rw [show VA3 X c main_arg4 = X c (Proc.devRef .tc main_arg4) from A3_args X c main_arg4 (by decide)]; exact hn

include hn in
theorem B2_x (b : Fin 8) (i : Fin 512) (f : Fin 128) : (B2 X c (Proc.devRef .tc main_v25_0) : S8x512x128.Idx → EReal) (ix3 b i f) = x1 X c nb b i f := by
  have h : (B2 X c (Proc.devRef .tc main_v25_0) : S8x512x128.Idx → EReal) = _ := (B2_arr X c 9).trans (arr2_9 (VA2 X) c nb (hn2 X c nb hn))
  rw [h]
  exact congrFun (new2 X c nb hn b i) f

include hn in
theorem B2_y (b : Fin 8) (i : Fin 512) (f : Fin 128) : (B2 X c (Proc.devRef .tc main_v25_1) : S8x512x128.Idx → EReal) (ix3 b i f) = rowMul (x1 X c nb b i) (wi X c 1) f := by
  have h : (B2 X c (Proc.devRef .tc main_v25_1) : S8x512x128.Idx → EReal) = _ := (B2_arr X c 10).trans (arr2_10 (VA2 X) c nb (hn2 X c nb hn))
  rw [h]
  exact rowMul_congr f (congrFun (new2 X c nb hn b i)) (A2_v12 X c)

include hn in
theorem new3 (b : Fin 8) (i : Fin 512) : newX (VA3 X c main_arg1) (VA3 X c main_v29) (VA3 X c main_v25_0) (VA3 X c main_v32) (VA3 X c main_v35) (VA3 X c main_v37) (VA3 X c main_v39) nb b i
    = x2 X c nb b i := by
  rw [show VA3 X c main_arg1 = X c (Proc.devRef .tc main_arg1) from A3_args X c main_arg1 (by decide), show VA3 X c main_v29 = _ from A3_v29 X c]
  refine newX_block _ _ _ _ _ _ _ nb (x1 X c nb) (w1 X c 1) (w2 X c 1) (wi X c 1) (wo X c 1) (wd X c 1) (B2_y X c nb hn) (fun b i f => ?_) (A3_v32 X c) (A3_v35 X c)
    (A3_v37 X c) (A3_v39 X c) b i
  exact (congrFun (A3_of X c main_v25_0 (by decide +kernel)) _).trans (B2_x X c nb hn b i f)

include hn in
/-- The kernel's result: the features after both blocks. -/
theorem B3_v40 : (B3 X c (Proc.devRef .tc main_v40) : S8x512x128.Idx → EReal) = fun j => x2 X c nb (j 0) (j 1) (j 2) := by
  have h : (B3 X c (Proc.devRef .tc main_v40) : S8x512x128.Idx → EReal) = _ := (B3_arr X c 9).trans (arr3_9 (VA3 X) c nb (hn3 X c nb hn))
  rw [h]
  funext j
  exact congrFun (new3 X c nb hn (j 0) (j 1)) (j 2)

end Result

end Cert.Proof.Ker

end
-- ==== Proof.Mol.lean ====
/-
  What the precondition `molecule` says of the arguments: ranges of the two index arrays, and the constant arrays of the
  molecules.
-/
module

public import proofs.«01_k».proof.Defs
public import proofs.«01_k».proof.Proof.Pre
public import proofs.«01_k».proof.Proof.Gen.Pre_molecule
public import Idealize.ShloMosaic.Lib.ReduceAll
public import Idealize.ShloMosaic.Lib.Pointwise

@[expose] public section

noncomputable section

namespace Cert.Proof.Pre

open Idealize.ShloMosaic

instance : Subsingleton Cert.Pre_molecule.S_.Idx := ⟨fun a b => funext fun k => k.elim0⟩

open Cert.Pre_molecule in
/-- What `molecule` says: the two index arrays in range, the cell and the four biases zero, the mask one. -/
structure Mol (x0 : IVec S8x512 32) (x2 : FVec Ideal S8x3x3 .f32) (x4 : IVec S8x512x64 32) (x5 : FVec Ideal S8x512x64 .f32)
    (x8 x10 x13 x15 : FVec Ideal S2x128 .f32) : Prop where
  z : ∀ i, (x0 i).toNat < 100
  nb : ∀ i, (x4 i).toNat < 512
  cell : ∀ i, x2 i = (0 : EReal)
  mask : ∀ i, x5 i = (1 : EReal)
  b1 : ∀ i, x8 i = (0 : EReal)
  b2 : ∀ i, x10 i = (0 : EReal)
  bo : ∀ i, x13 i = (0 : EReal)
  bd : ∀ i, x15 i = (0 : EReal)

open Cert.Pre_molecule in
/-- `molecule` as printed says `Mol`. -/
theorem mol (x0 : IVec S8x512 32) (x1 : FVec Ideal S8x512x3 .f32) (x2 : FVec Ideal S8x3x3 .f32) (x3 : FVec Ideal S8x512x64x3 .f32)
    (x4 : IVec S8x512x64 32) (x5 : FVec Ideal S8x512x64 .f32) (x6 : FVec Ideal S100x128 .f32) (x7 : FVec Ideal S2x25x128 .f32)
    (x8 : FVec Ideal S2x128 .f32) (x9 : FVec Ideal S2x128x128 .f32) (x10 : FVec Ideal S2x128 .f32) (x11 x12 : FVec Ideal S2x128x128 .f32)
    (x13 : FVec Ideal S2x128 .f32) (x14 : FVec Ideal S2x128x128 .f32) (x15 : FVec Ideal S2x128 .f32)
    (h : fn x0 x1 x2 x3 x4 x5 x6 x7 x8 x9 x10 x11 x12 x13 x14 x15 = fun _ => 1#1) : Mol x0 x2 x4 x5 x8 x10 x13 x15 := by
  have e := congrFun h (Shape.Idx.first Facts.h_S_)
  obtain ⟨e, h15⟩ := and_one e
  obtain ⟨e, h13⟩ := and_one e
  obtain ⟨e, h10⟩ := and_one e
  obtain ⟨e, h8⟩ := and_one e
  obtain ⟨e, h5⟩ := and_one e
  obtain ⟨e, h2⟩ := and_one e
  obtain ⟨h0, h4⟩ := and_one e
  have zero {s : Shape} (x : FVec Ideal s .f32) (i : s.Idx)
      (e : FloatOps.cmpf (F := Ideal) .oeq (x i) (FloatOps.ofBits .f32 0x00000000#32) = 1#1) : x i = (0 : EReal) :=
    (eq_of_oeq _ _ e).trans bits_zero
  exact {
    z := fun i => word_lt_100 _ (Host.reduce_andi_all _ _ _ _ _ h0 i)
    nb := fun i => word_lt_512 _ (Host.reduce_andi_all _ _ _ _ _ h4 i)
    cell := fun i => zero x2 i (Host.reduce_andi_all _ _ _ _ _ h2 i)
    mask := fun i => (eq_of_oeq _ _ (Host.reduce_andi_all _ _ _ _ _ h5 i)).trans bits_one
    b1 := fun i => zero x8 i (Host.reduce_andi_all _ _ _ _ _ h8 i)
    b2 := fun i => zero x10 i (Host.reduce_andi_all _ _ _ _ _ h10 i)
    bo := fun i => zero x13 i (Host.reduce_andi_all _ _ _ _ _ h13 i)
    bd := fun i => zero x15 i (Host.reduce_andi_all _ _ _ _ _ h15 i) }

end Cert.Proof.Pre

end
-- ==== Proof.RefG.lean ====
/-
  The reference's three gathers read at an index, their start index in range.
-/
module

public import Idealize.ShloMosaic.Lib.ValueIdx
public import Idealize.ShloMosaic.Lib.Pointwise

@[expose] public section

noncomputable section

namespace Cert.Proof.Ref

open Idealize.ShloMosaic

/-- A word that reads as a small natural number reads as the same integer. -/
theorem toInt_small {n : Nat} (v : BitVec 32) (i : Fin n) (hn : n ≤ 512) (h : v.toNat = i.val) : v.toInt.toNat = i.val := by
  have := i.isLt
  rw [BitVec.toInt_eq_toNat_of_lt (by omega), h]; rfl

/-- The dimension numbers of a gather of a table's rows, one row number per place. -/
abbrev rowsG {N B A D : Nat} (wf : GatherDims.WF ⟨2, ![N, D]⟩ ⟨3, ![B, A, 1]⟩ ⟨3, ![B, A, D]⟩ [2] [0] [] [0] [] 2 ![1, D]) :
    GatherDims ⟨2, ![N, D]⟩ ⟨3, ![B, A, 1]⟩ ⟨3, ![B, A, D]⟩ :=
  ⟨[2], [0], [], [], [0], 2, ![1, D], wf⟩

/-- Rows of a table at one row number per place. -/
theorem gather_rows {α : Type} {N B A D : Nat} (hN : N ≤ 512)
    (wf : GatherDims.WF ⟨2, ![N, D]⟩ ⟨3, ![B, A, 1]⟩ ⟨3, ![B, A, D]⟩ [2] [0] [] [0] [] 2 ![1, D])
    (x : (⟨2, ![N, D]⟩ : Shape).Idx → α) (idx : IVec ⟨3, ![B, A, 1]⟩ 32) (b : Fin B) (a : Fin A) (d : Fin D) (r : Fin N)
    (h : (idx (ix3 b a 0)).toNat = r.val) :
    Host.gather (rowsG wf) x idx (ix3 b a d) = x (ix2 r d) := by
  have hr := r.isLt
  unfold Host.gather
  congr 1
  funext c
  refine Fin.ext ?_
  show (rowsG wf).start (ix3 b a d) idx c + (rowsG wf).batchCoord (ix3 b a d) c + (rowsG wf).offCoord (ix3 b a d) c = _
  rw [GatherDims.batchCoord_eq_zero _ _ _ List.not_mem_nil]
  have hc : c = 0 ∨ c = 1 := match c with
    | ⟨0, _⟩ => Or.inl rfl
    | ⟨1, _⟩ => Or.inr rfl
  rcases hc with rfl | rfl
  · rw [GatherDims.offCoord_eq_zero _ _ _ (fun h => ((GatherDims.mem_sKept _ _).mp h).1 (List.mem_singleton.mpr rfl))]
    unfold GatherDims.start
    rw [dif_pos (show (0 : Fin 2) ∈ (rowsG wf).startIndexMap from List.mem_singleton.mpr rfl)]
    refine (congrArg (fun t => min t (N - 1) + 0 + 0)
      ((congrArg (fun j => (idx j).toInt.toNat) (eq_ix3 _)).trans (toInt_small _ r hN h))).trans ?_
    show min r.val (N - 1) + 0 + 0 = r.val
    omega
  · unfold GatherDims.start GatherDims.offCoord
    rw [dif_neg (show ¬ (1 : Fin 2) ∈ (rowsG wf).startIndexMap from fun h => by simp at h),
      dif_pos (show (1 : Fin 2) ∈ (rowsG wf).sKept from List.mem_singleton.mpr rfl)]
    show 0 + 0 + d.val = d.val
    omega

/-- The dimension numbers of a gather of the rows of each batch's table, one row number per place of the batch. -/
abbrev pickG {N B A K D : Nat}
    (wf : GatherDims.WF ⟨3, ![B, N, D]⟩ ⟨4, ![B, A, K, 1]⟩ ⟨4, ![B, A, K, D]⟩ [3] [1] [0] [1] [0] 3 ![1, 1, D]) :
    GatherDims ⟨3, ![B, N, D]⟩ ⟨4, ![B, A, K, 1]⟩ ⟨4, ![B, A, K, D]⟩ :=
  ⟨[3], [1], [0], [0], [1], 3, ![1, 1, D], wf⟩

/-- Rows of each batch's table at one row number per place of the batch. -/
theorem gather_pick {α : Type} {N B A K D : Nat} (hN : N ≤ 512)
    (wf : GatherDims.WF ⟨3, ![B, N, D]⟩ ⟨4, ![B, A, K, 1]⟩ ⟨4, ![B, A, K, D]⟩ [3] [1] [0] [1] [0] 3 ![1, 1, D])
    (x : (⟨3, ![B, N, D]⟩ : Shape).Idx → α) (idx : IVec ⟨4, ![B, A, K, 1]⟩ 32) (b : Fin B) (a : Fin A) (k : Fin K) (d : Fin D)
    (r : Fin N) (h : (idx (ix4 b a k 0)).toNat = r.val) :
    Host.gather (pickG wf) x idx (ix4 b a k d) = x (ix3 b r d) := by
  have hr := r.isLt
  unfold Host.gather
  congr 1
  funext c
  refine Fin.ext ?_
  show (pickG wf).start (ix4 b a k d) idx c + (pickG wf).batchCoord (ix4 b a k d) c + (pickG wf).offCoord (ix4 b a k d) c = _
  have hc : c = 0 ∨ c = 1 ∨ c = 2 := match c with
    | ⟨0, _⟩ => Or.inl rfl
    | ⟨1, _⟩ => Or.inr (Or.inl rfl)
    | ⟨2, _⟩ => Or.inr (Or.inr rfl)
  rcases hc with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 3) ∈ (pickG wf).operandBatchingDims from List.mem_singleton.mpr rfl)]
    show 0 + b.val + 0 = b.val
    omega
  · rw [GatherDims.batchCoord_eq_zero _ _ _ (fun h => by simp at h),
      GatherDims.offCoord_eq_zero _ _ _ (fun h => ((GatherDims.mem_sKept _ _).mp h).1 (List.mem_singleton.mpr rfl))]
    unfold GatherDims.start
    rw [dif_pos (show (1 : Fin 3) ∈ (pickG wf).startIndexMap from List.mem_singleton.mpr rfl)]
    refine (congrArg (fun t => min t (N - 1) + 0 + 0)
      ((congrArg (fun j => (idx j).toInt.toNat) (eq_ix4 _)).trans (toInt_small _ r hN h))).trans ?_
    show min r.val (N - 1) + 0 + 0 = r.val
    omega
  · rw [GatherDims.batchCoord_eq_zero _ _ _ (fun h => by simp at h)]
    unfold GatherDims.start GatherDims.offCoord
    rw [dif_neg (show ¬ (2 : Fin 3) ∈ (pickG wf).startIndexMap from fun h => by simp at h),
      dif_pos (show (2 : Fin 3) ∈ (pickG wf).sKept from List.mem_singleton.mpr rfl)]
    show 0 + 0 + d.val = d.val
    omega

end Cert.Proof.Ref

end
-- ==== Proof.RefV.lean ====
/-
  The reference's result, read at an index: two interaction blocks on the embedding rows.
-/
module

public import proofs.«01_k».proof.Proof.Gen.ReferenceIdeal.Read
public import proofs.«01_k».proof.Proof.Sch
public import proofs.«01_k».proof.Proof.Mol
public import proofs.«01_k».proof.Proof.RefG

@[expose] public section

noncomputable section

namespace Cert.Proof.Ref

open Cert.ReferenceIdeal Cert.ReferenceIdeal.Gen Cert.ReferenceIdeal.Read Idealize.ShloMosaic
open Cert.Proof.Pre
open scoped BigOperators

/-- The reference's softplus less `log 2`: a value is never unequal to itself here, so the other branch is taken. -/
theorem ssp_ref (x : Ideal .f32) :
    FloatOps.subf (Scalar.select (FloatOps.cmpf .une (FloatOps.subf x (FloatOps.ofBits .f32 0x00000000#32)) (FloatOps.subf x (FloatOps.ofBits .f32 0x00000000#32)))
      (FloatOps.addf x (FloatOps.ofBits .f32 0x00000000#32))
      (FloatOps.addf (FloatOps.maximumf x (FloatOps.ofBits .f32 0x00000000#32))
        (FloatOps.hostUnary .log1p (FloatOps.hostUnary .exp (FloatOps.hostNegf (FloatOps.hostAbsf (FloatOps.subf x (FloatOps.ofBits .f32 0x00000000#32))))))))
      (FloatOps.hostUnary .log (FloatOps.ofBits .f32 0x40000000#32)) = Sch.ssp x := by
  have h : FloatOps.cmpf .une (FloatOps.subf x (FloatOps.ofBits .f32 0x00000000#32)) (FloatOps.subf x (FloatOps.ofBits .f32 0x00000000#32)) = 0#1 := by
    simp [Ideal.cmpf_def, Ideal.cmp]
  rw [h]
  show (max x (Ideal.ofBits .f32 0x00000000#32) + Ideal.log1p (Ideal.exp (-(max (x - Ideal.ofBits .f32 0x00000000#32) (-(x - Ideal.ofBits .f32 0x00000000#32))))))
    - Ideal.log (Ideal.ofBits .f32 0x40000000#32) = Sch.ssp x
  rw [bits_zero]
  unfold Sch.ssp
  rw [sub_zero (x : EReal)]

/-- A word below 512 is not negative, so the wrap of a negative index leaves it. -/
theorem sel_word (v c : BitVec 32) (h : v.toNat < 512) : Scalar.select (IntOp.cmpi .slt v 0#32) c v = v := by
  have e : IntOp.cmpi .slt v 0#32 = 0#1 := by
    simp only [IntOp.cmpi, BitVec.slt_eq_decide, BitVec.toInt_eq_toNat_cond, BitVec.toNat_ofNat, Nat.reducePow, Nat.reduceMod]
    rw [decide_eq_false (by omega)]; rfl
  rw [e]; rfl

/-! ## Indices and gathers -/

theorem v12_at (x4 : IVec S8x512x64 32) (h : ∀ i, (x4 i).toNat < 512) (b : Fin 8) (i : Fin 512) (n : Fin 64) :
    val_main_v12 (F := Ideal) x4 (ix4 b i n 0) = x4 (ix3 b i n) := by
  rw [val_main_v12_apply, show idx_main_v12 (ix4 b i n 0) = ix3 b i n from eq_ix3 _]
  exact sel_word _ _ (h _)

theorem v5_at (x0 : IVec S8x512 32) (h : ∀ i, (x0 i).toNat < 100) (b : Fin 8) (i : Fin 512) :
    val_main_v5 (F := Ideal) x0 (ix3 b i 0) = x0 (ix2 b i) := by
  rw [val_main_v5_apply, show idx_main_v5 (ix3 b i 0) = ix2 b i from eq_ix2 _]
  exact sel_word _ _ ((h _).trans (by decide))

/-- The embedding rows. -/
theorem v6_at (x0 : IVec S8x512 32) (x6 : FVec Ideal S100x128 .f32) (h : ∀ i, (x0 i).toNat < 100) (b : Fin 8) (i : Fin 512) (f : Fin 128) :
    val_main_v6 (F := Ideal) x0 x6 (ix3 b i f) = x6 (ix2 ⟨(x0 (ix2 b i)).toNat, h _⟩ f) :=
  gather_rows (by decide) _ x6 (val_main_v5 (F := Ideal) x0) b i f _ (congrArg BitVec.toNat (v5_at x0 h b i))

/-- The neighbours' positions. -/
theorem v13_at (x1 : FVec Ideal S8x512x3 .f32) (x4 : IVec S8x512x64 32) (h : ∀ i, (x4 i).toNat < 512) (b : Fin 8) (i : Fin 512) (n : Fin 64) (k : Fin 3) :
    val_main_v13 (F := Ideal) x1 x4 (ix4 b i n k) = x1 (ix3 b ⟨(x4 (ix3 b i n)).toNat, h _⟩ k) :=
  gather_pick (by decide) _ x1 (val_main_v12 (F := Ideal) x4) b i n k _ (congrArg BitVec.toNat (v12_at x4 h b i n))

/-! ## Distances and Gaussians -/

section
variable (x1 : FVec Ideal S8x512x3 .f32) (x2 : FVec Ideal S8x3x3 .f32) (x3 : FVec Ideal S8x512x64x3 .f32) (x4 : IVec S8x512x64 32)
  (h4 : ∀ i, (x4 i).toNat < 512) (h2 : ∀ i, x2 i = (0 : EReal))

include h2 in
theorem v14_at (j : S8x512x64x3.Idx) : val_main_v14 (F := Ideal) x2 x3 j = (0 : EReal) := by
  rw [val_main_v14_apply]
  exact Finset.sum_eq_zero fun k _ => by rw [h2]; exact mul_zero _

include h2 in
/-- A distance. -/
theorem v23_at (b : Fin 8) (i : Fin 512) (n : Fin 64) :
    val_main_v23 (F := Ideal) x1 x2 x3 x4 (ix3 b i n)
      = Sch.dist (fun k => x1 (ix3 b i k)) (fun k => x1 (ix3 b ⟨(x4 (ix3 b i n)).toNat, h4 _⟩ k)) := by
  have d (k : Fin 3) : val_main_v18 (F := Ideal) x1 x2 x3 x4 (ix4 b i n k)
      = (x1 (ix3 b ⟨(x4 (ix3 b i n)).toNat, h4 _⟩ k) - x1 (ix3 b i k) : EReal) := by
    rw [val_main_v18_apply, val_main_v15_apply, v13_at x1 x4 h4, v14_at x2 x3 h2, val_main_v17_apply, val_main_v16_apply,
      show idx_main_v16 (idx_main_v17 (ix4 b i n k)) = ix3 b i k from eq_ix3 _]
    show (_ + (0 : EReal) - _ : EReal) = _
    rw [add_zero]
  rw [val_main_v23_apply, val_main_v22_apply, val_main_v20_apply]
  unfold Sch.dist
  show Ideal.sqrt (max (Ideal.ofBits .f32 0x00000000#32 + _) _) = _
  rw [bits_zero, zero_add]
  refine congrArg Ideal.sqrt (congrArg₂ max (Finset.sum_congr rfl fun k _ => ?_) rfl)
  rw [show idx_main_v20 (ix3 b i n) k = ix4 b i n k from eq_ix4 _, val_main_v19_apply, d]
  rfl

end

/-! ## The centres and the Gaussians -/

theorem bits_five : Ideal.ofBits .f32 0x40A00000#32 = ((5 : ℝ) : EReal) := by
  simp [Ideal.ofBits, Ideal.ieee, -EReal.coe_mul]; norm_num

theorem bits_24 : Ideal.ofBits .f32 0x41C00000#32 = ((24 : ℝ) : EReal) := by
  simp [Ideal.ofBits, Ideal.ieee, -EReal.coe_mul]; norm_num

theorem bits_neg_half : Ideal.ofBits .f32 0xBF000000#32 = ((-1 / 2 : ℝ) : EReal) := by
  simp [Ideal.ofBits, Ideal.ieee, -EReal.coe_mul]; norm_num

/-- A centre but the last: none of 0 and `k/24` of 5, added. -/
theorem lin_at (k : Fin 24) : val_main_call0_v15 (F := Ideal) (ix1 k) = (((k.val : ℝ) * (5 / 24) : ℝ) : EReal) := by
  have e0 (j) : val_main_call0_v10 (F := Ideal) j = (0 : EReal) := by
    unfold val_main_call0_v10 val_main_call0_v7
    pointwise
    exact bits_zero
  have e5 (j) : val_main_call0_v13 (F := Ideal) j = ((5 : ℝ) : EReal) := by
    unfold val_main_call0_v13 val_main_call0_v12
    pointwise
    exact bits_five
  have ek : val_main_call0_v6 (F := Ideal) (ix1 k) = (((k.val : ℝ) / 24 : ℝ) : EReal) := by
    have hk : (BitVec.ofNat 32 k.val).toInt = (k.val : ℤ) := by
      have := k.isLt
      rw [BitVec.toInt_eq_toNat_of_lt (by rw [BitVec.toNat_ofNat]; omega), BitVec.toNat_ofNat]; congr 1; omega
    rw [val_main_call0_v6_apply, val_main_call0_v5_apply]
    show Ideal.div (((BitVec.ofNat 32 k.val).toInt : ℝ) : EReal) (Ideal.ofBits .f32 0x41C00000#32) = _
    rw [bits_24, hk, Ideal.div_coe (by norm_num), ← EReal.coe_mul, Int.cast_natCast]
    congr 1; ring
  rw [val_main_call0_v15_apply, val_main_call0_v14_apply, val_main_call0_v11_apply, e0, e5, ek]
  show ((0 : EReal) * _ + ((5 : ℝ) : EReal) * (((k.val : ℝ) / 24 : ℝ) : EReal) : EReal) = _
  rw [zero_mul, zero_add, ← EReal.coe_mul]
  congr 1; ring

/-- The centres. -/
theorem v24_at (q : Fin 25) : val_main_v24 (F := Ideal) (ix1 q) = Sch.centre q := by
  unfold val_main_v24
  pointwise
  unfold Sch.centre
  rw [← EReal.coe_mul]
  split
  · exact lin_at _
  · rename_i h
    have hq : q.val = 24 := by have := q.isLt; omega
    refine (show _ = Ideal.ofBits .f32 0x40A00000#32 from rfl).trans (bits_five.trans ?_)
    rw [hq]; congr 1; norm_num

/-- The factor of the squared distance from a centre. -/
theorem v31_at (j : S_.Idx) : val_main_v31 (F := Ideal) j = ((-288 / 25 : ℝ) : EReal) := by
  have e26 (j) : val_main_v26 (F := Ideal) j = (((5 / 24 : ℝ)) : EReal) := by
    unfold val_main_v26 val_main_v25
    pointwise
    refine (v24_at 1).trans ?_
    unfold Sch.centre
    rw [← EReal.coe_mul]; norm_num
  have e28 (j) : val_main_v28 (F := Ideal) j = (((0 : ℝ)) : EReal) := by
    unfold val_main_v28 val_main_v27
    pointwise
    refine (v24_at 0).trans ?_
    unfold Sch.centre
    rw [← EReal.coe_mul]; norm_num
  rw [val_main_v31_apply, val_main_v30_apply, val_main_v29_apply, e26, e28, val_main_cst_6_apply]
  show Ideal.div (Ideal.ofBits .f32 0xBF000000#32) ((((5 / 24 : ℝ) : EReal) - ((0 : ℝ) : EReal)) * (((5 / 24 : ℝ) : EReal) - ((0 : ℝ) : EReal))) = _
  rw [bits_neg_half, ← EReal.coe_sub, ← EReal.coe_mul, Ideal.div_coe (by norm_num), ← EReal.coe_mul]
  norm_num

/-- A Gaussian of a distance. -/
theorem v40_at (x1 : FVec Ideal S8x512x3 .f32) (x2 : FVec Ideal S8x3x3 .f32) (x3 : FVec Ideal S8x512x64x3 .f32) (x4 : IVec S8x512x64 32)
    (b : Fin 8) (i : Fin 512) (n : Fin 64) (q : Fin 25) :
    val_main_v40 (F := Ideal) x1 x2 x3 x4 (ix4 b i n q) = Sch.gauss (val_main_v23 (F := Ideal) x1 x2 x3 x4 (ix3 b i n)) q := by
  rw [val_main_v40_apply, val_main_v39_apply, val_main_v38_apply, v31_at, val_main_v37_apply, val_main_v36_apply,
    val_main_v34_apply, val_main_v32_apply, val_main_v35_apply, val_main_v33_apply,
    show idx_main_v32 (idx_main_v34 (ix4 b i n q)) = ix3 b i n from eq_ix3 _,
    show idx_main_v33 (idx_main_v35 (ix4 b i n q)) = ix1 q from eq_ix1 _, v24_at]
  rfl

/-! ## A block -/

theorem dot25_at (X : FVec Ideal S8x512x64x25 .f32) (W : FVec Ideal S25x128 .f32) (b : Fin 8) (i : Fin 512) (n : Fin 64) (f : Fin 128) :
    Host.dotGeneral dot_S8x512x64x25_S25x128_S8x512x64x128_3_0_012_1_n_n none X W (ix4 b i n f)
      = ∑ q : Fin 25, X (ix4 b i n q) * W (ix2 q f) := by
  pointwise

theorem dot4_at (X : FVec Ideal S8x512x64x128 .f32) (W : FVec Ideal S128x128 .f32) (b : Fin 8) (i : Fin 512) (n : Fin 64) (f : Fin 128) :
    Host.dotGeneral dot_S8x512x64x128_S128x128_S8x512x64x128_3_0_012_1_n_n none X W (ix4 b i n f)
      = ∑ h : Fin 128, X (ix4 b i n h) * W (ix2 h f) := by
  pointwise

theorem dot3_at (X : FVec Ideal S8x512x128 .f32) (W : FVec Ideal S128x128 .f32) (b : Fin 8) (i : Fin 512) (f : Fin 128) :
    Host.dotGeneral dot_S8x512x128_S128x128_S8x512x128_2_0_01_1_n_n none X W (ix3 b i f)
      = ∑ h : Fin 128, X (ix3 b i h) * W (ix2 h f) := by
  pointwise

theorem sum_at (X : FVec Ideal S8x512x64x128 .f32) (b : Fin 8) (i : Fin 512) (f : Fin 128) :
    Host.reduceAdd X (val_main_cst_10 (F := Ideal)) reducesTo_S8x512x64x128_S8x512x128_d2 h_S_ (ix3 b i f) = ∑ n : Fin 64, X (ix4 b i n f) := by
  pointwise
  refine (show _ = (Ideal.ofBits .f32 0x00000000#32 + _ : EReal) from rfl).trans ?_
  rw [bits_zero, zero_add]

/-- The reference's softplus less `log 2`, on an array. -/
def sspT {s : Shape} (Z L x : FVec Ideal s .f32) : FVec Ideal s .f32 :=
  subf (select (cmpf .une (subf x Z) (subf x Z)) (addf x Z) (addf (maximumf x Z) (Host.log1p (Host.exp (Host.negf (Host.absf (subf x Z))))))) L

theorem sspT_at {s : Shape} (Z L x : FVec Ideal s .f32) (j : s.Idx) (hz : Z j = FloatOps.ofBits .f32 0x00000000#32)
    (hl : L j = FloatOps.hostUnary .log (FloatOps.ofBits .f32 0x40000000#32)) : sspT Z L x j = Sch.ssp (x j) := by
  refine Eq.trans ?_ (ssp_ref (x j))
  rw [← hz, ← hl]
  rfl

/-- The filtered sums over the neighbours, from the Gaussians, the neighbours, the mask, the features and the weights. -/
def convT (G : FVec Ideal S8x512x64x25 .f32) (N : IVec S8x512x64x1 32) (M : FVec Ideal S8x512x64x128 .f32) (X : FVec Ideal S8x512x128 .f32)
    (W1 : FVec Ideal S25x128 .f32) (B1 : FVec Ideal S8x512x64x128 .f32) (W2 : FVec Ideal S128x128 .f32) (B2 : FVec Ideal S8x512x64x128 .f32)
    (Wi : FVec Ideal S128x128 .f32) : FVec Ideal S8x512x128 .f32 :=
  Host.reduceAdd (mulf (mulf
      (Host.gather gather_S8x512x128_S8x512x64x1_S8x512x64x128_3_1_0_0_1_3_11128 (Host.dotGeneral dot_S8x512x128_S128x128_S8x512x128_2_0_01_1_n_n none X Wi) N)
      (addf (Host.dotGeneral dot_S8x512x64x128_S128x128_S8x512x64x128_3_0_012_1_n_n none
        (sspT (val_main_call1_v0 (F := Ideal)) (val_main_v52 (F := Ideal))
          (addf (Host.dotGeneral dot_S8x512x64x25_S25x128_S8x512x64x128_3_0_012_1_n_n none G W1) B1)) W2) B2)) M)
    (val_main_cst_10 (F := Ideal)) reducesTo_S8x512x64x128_S8x512x128_d2 h_S_

/-- The features after a block, from the filtered sums, the features and the weights. -/
def outT (A X : FVec Ideal S8x512x128 .f32) (Wo : FVec Ideal S128x128 .f32) (Bo : FVec Ideal S8x512x128 .f32) (Wd : FVec Ideal S128x128 .f32)
    (Bd : FVec Ideal S8x512x128 .f32) : FVec Ideal S8x512x128 .f32 :=
  addf X (addf (Host.dotGeneral dot_S8x512x128_S128x128_S8x512x128_2_0_01_1_n_n none
    (sspT (val_main_call2_v0 (F := Ideal)) (val_main_v88 (F := Ideal))
      (addf (Host.dotGeneral dot_S8x512x128_S128x128_S8x512x128_2_0_01_1_n_n none A Wo) Bo)) Wd) Bd)

/-- The filtered sums read at an index, the mask one and the biases zero. -/
theorem convT_at (G : FVec Ideal S8x512x64x25 .f32) (N : IVec S8x512x64x1 32) (M : FVec Ideal S8x512x64x128 .f32) (X : FVec Ideal S8x512x128 .f32)
    (W1 : FVec Ideal S25x128 .f32) (B1 : FVec Ideal S8x512x64x128 .f32) (W2 : FVec Ideal S128x128 .f32) (B2 : FVec Ideal S8x512x64x128 .f32)
    (Wi : FVec Ideal S128x128 .f32) (hM : ∀ j, M j = (1 : EReal)) (h1 : ∀ j, B1 j = (0 : EReal)) (h2 : ∀ j, B2 j = (0 : EReal))
    (nb : Fin 8 → Fin 512 → Fin 64 → Fin 512) (hN : ∀ b i n, (N (ix4 b i n 0)).toNat = (nb b i n).val)
    (r : Fin 8 → Fin 512 → Fin 64 → EReal) (hG : ∀ b i n q, G (ix4 b i n q) = Sch.gauss (r b i n) q)
    (b : Fin 8) (i : Fin 512) (f : Fin 128) :
    convT G N M X W1 B1 W2 B2 Wi (ix3 b i f)
      = ∑ n : Fin 64, Sch.filt (fun p q => W1 (ix2 p q)) (fun p q => W2 (ix2 p q)) (r b i n) f
          * Sch.rowMul (fun h => X (ix3 b (nb b i n) h)) (fun p q => Wi (ix2 p q)) f := by
  unfold convT
  rw [sum_at]
  refine Finset.sum_congr rfl fun n _ => ?_
  have e1 (h : Fin 128) : addf (Host.dotGeneral dot_S8x512x64x25_S25x128_S8x512x64x128_3_0_012_1_n_n none G W1) B1 (ix4 b i n h)
      = ∑ q : Fin 25, Sch.gauss (r b i n) q * W1 (ix2 q h) := by
    refine (congrArg₂ (fun x y : EReal => x + y) (dot25_at G W1 b i n h) (h1 _)).trans ((add_zero _).trans ?_)
    exact Finset.sum_congr rfl fun q _ => by rw [hG]
  have e2 : addf (Host.dotGeneral dot_S8x512x64x128_S128x128_S8x512x64x128_3_0_012_1_n_n none
        (sspT (val_main_call1_v0 (F := Ideal)) (val_main_v52 (F := Ideal))
          (addf (Host.dotGeneral dot_S8x512x64x25_S25x128_S8x512x64x128_3_0_012_1_n_n none G W1) B1)) W2) B2 (ix4 b i n f)
      = Sch.filt (fun p q => W1 (ix2 p q)) (fun p q => W2 (ix2 p q)) (r b i n) f := by
    refine (congrArg₂ (fun x y : EReal => x + y) (dot4_at _ W2 b i n f) (h2 _)).trans ((add_zero _).trans ?_)
    exact Finset.sum_congr rfl fun h _ => by rw [sspT_at _ _ _ _ rfl rfl, e1]
  have e3 : Host.gather gather_S8x512x128_S8x512x64x1_S8x512x64x128_3_1_0_0_1_3_11128
        (Host.dotGeneral dot_S8x512x128_S128x128_S8x512x128_2_0_01_1_n_n none X Wi) N (ix4 b i n f)
      = Sch.rowMul (fun h => X (ix3 b (nb b i n) h)) (fun p q => Wi (ix2 p q)) f :=
    (gather_pick (by decide) _ _ N b i n f (nb b i n) (hN b i n)).trans (dot3_at X Wi b (nb b i n) f)
  refine (show _ = (_ * _ * _ : EReal) from rfl).trans ((congrArg₂ (fun x y : EReal => x * y) (congrArg₂ (fun x y : EReal => x * y) e3 e2) (hM _)).trans ?_)
  exact (mul_one _).trans (mul_comm _ _)

/-- The features after a block read at an index, the biases zero. -/
theorem outT_at (A X : FVec Ideal S8x512x128 .f32) (Wo : FVec Ideal S128x128 .f32) (Bo : FVec Ideal S8x512x128 .f32) (Wd : FVec Ideal S128x128 .f32)
    (Bd : FVec Ideal S8x512x128 .f32) (h1 : ∀ j, Bo j = (0 : EReal)) (h2 : ∀ j, Bd j = (0 : EReal)) (b : Fin 8) (i : Fin 512) (f : Fin 128) :
    outT A X Wo Bo Wd Bd (ix3 b i f)
      = Sch.upd (fun p q => Wo (ix2 p q)) (fun p q => Wd (ix2 p q)) (fun h => X (ix3 b i h)) (fun h => A (ix3 b i h)) f := by
  have e1 (h : Fin 128) : addf (Host.dotGeneral dot_S8x512x128_S128x128_S8x512x128_2_0_01_1_n_n none A Wo) Bo (ix3 b i h)
      = Sch.rowMul (fun h => A (ix3 b i h)) (fun p q => Wo (ix2 p q)) h :=
    (congrArg₂ (fun x y : EReal => x + y) (dot3_at A Wo b i h) (h1 _)).trans (add_zero _)
  refine (show _ = (X (ix3 b i f) + (_ + Bd (ix3 b i f)) : EReal) from rfl).trans (congrArg (fun y : EReal => X (ix3 b i f) + y) ?_)
  refine (congrArg₂ (fun x y : EReal => x + y) (dot3_at _ Wd b i f) (h2 _)).trans ((add_zero _).trans ?_)
  exact Finset.sum_congr rfl fun h _ => by rw [sspT_at _ _ _ _ rfl rfl, e1]

/-! ## The weights, the biases and the mask of each block -/

theorem v42_at (x7 : FVec Ideal S2x25x128 .f32) (p : Fin 25) (q : Fin 128) : val_main_v42 (F := Ideal) x7 (ix2 p q) = x7 (ix3 0 p q) := by
  unfold val_main_v42 val_main_v41; pointwise
theorem v55_at (x9 : FVec Ideal S2x128x128 .f32) (p : Fin 128) (q : Fin 128) : val_main_v55 (F := Ideal) x9 (ix2 p q) = x9 (ix3 0 p q) := by
  unfold val_main_v55 val_main_v54; pointwise
theorem v63_at (x11 : FVec Ideal S2x128x128 .f32) (p : Fin 128) (q : Fin 128) : val_main_v63 (F := Ideal) x11 (ix2 p q) = x11 (ix3 0 p q) := by
  unfold val_main_v63 val_main_v62; pointwise
theorem v78_at (x12 : FVec Ideal S2x128x128 .f32) (p : Fin 128) (q : Fin 128) : val_main_v78 (F := Ideal) x12 (ix2 p q) = x12 (ix3 0 p q) := by
  unfold val_main_v78 val_main_v77; pointwise
theorem v91_at (x14 : FVec Ideal S2x128x128 .f32) (p : Fin 128) (q : Fin 128) : val_main_v91 (F := Ideal) x14 (ix2 p q) = x14 (ix3 0 p q) := by
  unfold val_main_v91 val_main_v90; pointwise
theorem v47_zero (x8 : FVec Ideal S2x128 .f32) (h : ∀ i, x8 i = (0 : EReal)) (j : S8x512x64x128.Idx) : val_main_v47 (F := Ideal) x8 j = (0 : EReal) := by
  rw [val_main_v47_apply, val_main_v46_apply, val_main_v45_apply, val_main_v44_apply]; exact h _
theorem v60_zero (x10 : FVec Ideal S2x128 .f32) (h : ∀ i, x10 i = (0 : EReal)) (j : S8x512x64x128.Idx) : val_main_v60 (F := Ideal) x10 j = (0 : EReal) := by
  rw [val_main_v60_apply, val_main_v59_apply, val_main_v58_apply, val_main_v57_apply]; exact h _
theorem v83_zero (x13 : FVec Ideal S2x128 .f32) (h : ∀ i, x13 i = (0 : EReal)) (j : S8x512x128.Idx) : val_main_v83 (F := Ideal) x13 j = (0 : EReal) := by
  rw [val_main_v83_apply, val_main_v82_apply, val_main_v81_apply, val_main_v80_apply]; exact h _
theorem v96_zero (x15 : FVec Ideal S2x128 .f32) (h : ∀ i, x15 i = (0 : EReal)) (j : S8x512x128.Idx) : val_main_v96 (F := Ideal) x15 j = (0 : EReal) := by
  rw [val_main_v96_apply, val_main_v95_apply, val_main_v94_apply, val_main_v93_apply]; exact h _
theorem v74_one (x5 : FVec Ideal S8x512x64 .f32) (h : ∀ i, x5 i = (1 : EReal)) (j : S8x512x64x128.Idx) : val_main_v74 (F := Ideal) x5 j = (1 : EReal) := by
  rw [val_main_v74_apply, val_main_v73_apply]; exact h _
theorem v100_at (x7 : FVec Ideal S2x25x128 .f32) (p : Fin 25) (q : Fin 128) : val_main_v100 (F := Ideal) x7 (ix2 p q) = x7 (ix3 1 p q) := by
  unfold val_main_v100 val_main_v99; pointwise
theorem v113_at (x9 : FVec Ideal S2x128x128 .f32) (p : Fin 128) (q : Fin 128) : val_main_v113 (F := Ideal) x9 (ix2 p q) = x9 (ix3 1 p q) := by
  unfold val_main_v113 val_main_v112; pointwise
theorem v121_at (x11 : FVec Ideal S2x128x128 .f32) (p : Fin 128) (q : Fin 128) : val_main_v121 (F := Ideal) x11 (ix2 p q) = x11 (ix3 1 p q) := by
  unfold val_main_v121 val_main_v120; pointwise
theorem v136_at (x12 : FVec Ideal S2x128x128 .f32) (p : Fin 128) (q : Fin 128) : val_main_v136 (F := Ideal) x12 (ix2 p q) = x12 (ix3 1 p q) := by
  unfold val_main_v136 val_main_v135; pointwise
theorem v149_at (x14 : FVec Ideal S2x128x128 .f32) (p : Fin 128) (q : Fin 128) : val_main_v149 (F := Ideal) x14 (ix2 p q) = x14 (ix3 1 p q) := by
  unfold val_main_v149 val_main_v148; pointwise
theorem v105_zero (x8 : FVec Ideal S2x128 .f32) (h : ∀ i, x8 i = (0 : EReal)) (j : S8x512x64x128.Idx) : val_main_v105 (F := Ideal) x8 j = (0 : EReal) := by
  rw [val_main_v105_apply, val_main_v104_apply, val_main_v103_apply, val_main_v102_apply]; exact h _
theorem v118_zero (x10 : FVec Ideal S2x128 .f32) (h : ∀ i, x10 i = (0 : EReal)) (j : S8x512x64x128.Idx) : val_main_v118 (F := Ideal) x10 j = (0 : EReal) := by
  rw [val_main_v118_apply, val_main_v117_apply, val_main_v116_apply, val_main_v115_apply]; exact h _
theorem v141_zero (x13 : FVec Ideal S2x128 .f32) (h : ∀ i, x13 i = (0 : EReal)) (j : S8x512x128.Idx) : val_main_v141 (F := Ideal) x13 j = (0 : EReal) := by
  rw [val_main_v141_apply, val_main_v140_apply, val_main_v139_apply, val_main_v138_apply]; exact h _
theorem v154_zero (x15 : FVec Ideal S2x128 .f32) (h : ∀ i, x15 i = (0 : EReal)) (j : S8x512x128.Idx) : val_main_v154 (F := Ideal) x15 j = (0 : EReal) := by
  rw [val_main_v154_apply, val_main_v153_apply, val_main_v152_apply, val_main_v151_apply]; exact h _
theorem v132_one (x5 : FVec Ideal S8x512x64 .f32) (h : ∀ i, x5 i = (1 : EReal)) (j : S8x512x64x128.Idx) : val_main_v132 (F := Ideal) x5 j = (1 : EReal) := by
  rw [val_main_v132_apply, val_main_v131_apply]; exact h _

/-! ## The two blocks -/

section
variable (x0 : IVec S8x512 32) (x1 : FVec Ideal S8x512x3 .f32) (x2 : FVec Ideal S8x3x3 .f32) (x3 : FVec Ideal S8x512x64x3 .f32)
  (x4 : IVec S8x512x64 32) (x5 : FVec Ideal S8x512x64 .f32) (x6 : FVec Ideal S100x128 .f32) (x7 : FVec Ideal S2x25x128 .f32)
  (x8 : FVec Ideal S2x128 .f32) (x9 : FVec Ideal S2x128x128 .f32) (x10 : FVec Ideal S2x128 .f32) (x11 x12 : FVec Ideal S2x128x128 .f32)
  (x13 : FVec Ideal S2x128 .f32) (x14 : FVec Ideal S2x128x128 .f32) (x15 : FVec Ideal S2x128 .f32)

/-- A neighbour as a number below 512. -/
def nbr (x4 : IVec S8x512x64 32) (h : ∀ i, (x4 i).toNat < 512) (b : Fin 8) (i : Fin 512) (n : Fin 64) : Fin 512 :=
  ⟨(x4 (ix3 b i n)).toNat, h _⟩

/-- The embedding row of an atom. -/
def emb (x0 : IVec S8x512 32) (x6 : FVec Ideal S100x128 .f32) (h : ∀ i, (x0 i).toNat < 100) (b : Fin 8) (i : Fin 512) (f : Fin 128) : EReal :=
  x6 (ix2 ⟨(x0 (ix2 b i)).toNat, h _⟩ f)

/-- A block with the `l`-th of each weight. -/
def blk (l : Fin 2) (h4 : ∀ i, (x4 i).toNat < 512) (x : Fin 8 → Fin 512 → Fin 128 → EReal) : Fin 8 → Fin 512 → Fin 128 → EReal :=
  Sch.block (fun p q => x7 (ix3 l p q)) (fun p q => x9 (ix3 l p q)) (fun p q => x11 (ix3 l p q)) (fun p q => x12 (ix3 l p q))
    (fun p q => x14 (ix3 l p q)) (fun b i k => x1 (ix3 b i k)) (nbr x4 h4) x

/-- A block of the reference, from its input features `X` known at every index. -/
theorem blk_at (l : Fin 2) (h4 : ∀ i, (x4 i).toNat < 512) (h2 : ∀ i, x2 i = (0 : EReal))
    (N : IVec S8x512x64x1 32) (M : FVec Ideal S8x512x64x128 .f32) (X : FVec Ideal S8x512x128 .f32)
    (W1 : FVec Ideal S25x128 .f32) (B1 : FVec Ideal S8x512x64x128 .f32) (W2 : FVec Ideal S128x128 .f32) (B2 : FVec Ideal S8x512x64x128 .f32)
    (Wi Wo : FVec Ideal S128x128 .f32) (Bo : FVec Ideal S8x512x128 .f32) (Wd : FVec Ideal S128x128 .f32) (Bd : FVec Ideal S8x512x128 .f32)
    (hN : ∀ b i n, N (ix4 b i n 0) = x4 (ix3 b i n)) (hM : ∀ j, M j = (1 : EReal))
    (hB1 : ∀ j, B1 j = (0 : EReal)) (hB2 : ∀ j, B2 j = (0 : EReal)) (hBo : ∀ j, Bo j = (0 : EReal)) (hBd : ∀ j, Bd j = (0 : EReal))
    (hW1 : ∀ p q, W1 (ix2 p q) = x7 (ix3 l p q)) (hW2 : ∀ p q, W2 (ix2 p q) = x9 (ix3 l p q)) (hWi : ∀ p q, Wi (ix2 p q) = x11 (ix3 l p q))
    (hWo : ∀ p q, Wo (ix2 p q) = x12 (ix3 l p q)) (hWd : ∀ p q, Wd (ix2 p q) = x14 (ix3 l p q))
    (x : Fin 8 → Fin 512 → Fin 128 → EReal) (hX : ∀ b i f, X (ix3 b i f) = x b i f) (b : Fin 8) (i : Fin 512) (f : Fin 128) :
    outT (convT (val_main_v40 (F := Ideal) x1 x2 x3 x4) N M X W1 B1 W2 B2 Wi) X Wo Bo Wd Bd (ix3 b i f)
      = blk x1 x4 x7 x9 x11 x12 x14 l h4 x b i f := by
  rw [outT_at _ _ _ _ _ _ hBo hBd]
  unfold blk Sch.block
  simp only [hWo, hWd, hX]
  refine congrFun (congrArg (Sch.upd _ _ _) (funext fun h => ?_)) f
  rw [convT_at _ N M X W1 B1 W2 B2 Wi hM hB1 hB2 (nbr x4 h4) (fun b i n => by rw [hN]; rfl) _
    (fun b i n q => v40_at x1 x2 x3 x4 b i n q)]
  simp only [hW1, hW2, hWi, hX, v23_at x1 x2 x3 x4 h4 h2]
  rfl

/-- The features after the first block. -/
theorem v98_at (h : Mol x0 x2 x4 x5 x8 x10 x13 x15) (b : Fin 8) (i : Fin 512) (f : Fin 128) :
    val_main_v98 (F := Ideal) x0 x1 x2 x3 x4 x5 x6 x7 x8 x9 x10 x11 x12 x13 x14 x15 (ix3 b i f)
      = blk x1 x4 x7 x9 x11 x12 x14 0 h.nb (emb x0 x6 h.z) b i f :=
  blk_at x1 x2 x3 x4 x7 x9 x11 x12 x14 0 h.nb h.cell (val_main_v70 (F := Ideal) x4) (val_main_v74 (F := Ideal) x5) (val_main_v6 (F := Ideal) x0 x6)
    (val_main_v42 (F := Ideal) x7) (val_main_v47 (F := Ideal) x8) (val_main_v55 (F := Ideal) x9) (val_main_v60 (F := Ideal) x10)
    (val_main_v63 (F := Ideal) x11) (val_main_v78 (F := Ideal) x12) (val_main_v83 (F := Ideal) x13) (val_main_v91 (F := Ideal) x14) (val_main_v96 (F := Ideal) x15)
    (v12_at x4 h.nb) (v74_one x5 h.mask) (v47_zero x8 h.b1) (v60_zero x10 h.b2) (v83_zero x13 h.bo) (v96_zero x15 h.bd)
    (v42_at x7) (v55_at x9) (v63_at x11) (v78_at x12) (v91_at x14) _ (v6_at x0 x6 h.z) b i f

/-- The reference's result: two blocks on the embedding rows. -/
theorem v156_at (h : Mol x0 x2 x4 x5 x8 x10 x13 x15) (b : Fin 8) (i : Fin 512) (f : Fin 128) :
    val_main_v156 (F := Ideal) x0 x1 x2 x3 x4 x5 x6 x7 x8 x9 x10 x11 x12 x13 x14 x15 (ix3 b i f)
      = blk x1 x4 x7 x9 x11 x12 x14 1 h.nb (blk x1 x4 x7 x9 x11 x12 x14 0 h.nb (emb x0 x6 h.z)) b i f :=
  blk_at x1 x2 x3 x4 x7 x9 x11 x12 x14 1 h.nb h.cell (val_main_v128 (F := Ideal) x4) (val_main_v132 (F := Ideal) x5)
    (val_main_v98 (F := Ideal) x0 x1 x2 x3 x4 x5 x6 x7 x8 x9 x10 x11 x12 x13 x14 x15)
    (val_main_v100 (F := Ideal) x7) (val_main_v105 (F := Ideal) x8) (val_main_v113 (F := Ideal) x9) (val_main_v118 (F := Ideal) x10)
    (val_main_v121 (F := Ideal) x11) (val_main_v136 (F := Ideal) x12) (val_main_v141 (F := Ideal) x13) (val_main_v149 (F := Ideal) x14) (val_main_v154 (F := Ideal) x15)
    (v12_at x4 h.nb) (v132_one x5 h.mask) (v105_zero x8 h.b1) (v118_zero x10 h.b2) (v141_zero x13 h.bo) (v154_zero x15 h.bd)
    (v100_at x7) (v113_at x9) (v121_at x11) (v136_at x12) (v149_at x14) _ (v98_at x0 x1 x2 x3 x4 x5 x6 x7 x8 x9 x10 x11 x12 x13 x14 x15 h) b i f

end

end Cert.Proof.Ref

end
-- ==== Proof.Value.lean ====
/-
  The result: the kernel's and the reference's are the same two blocks on the same embedding rows.
-/
module

public import proofs.«01_k».proof.Proof.Frames
public import proofs.«01_k».proof.Proof.Ker.HostV
public import proofs.«01_k».proof.Proof.RefV

@[expose] public section

noncomputable section

namespace Cert.Proof

open Idealize.ShloMosaic Idealize.ShloMosaic.TcCoe Idealize.SL.Sem

namespace Ker

open Cert.KernelIdeal Cert.KernelIdeal.Gen

variable (m : (ℓ : Loc nD τ sig) → Buf (Elt Ideal) ℓ) (c : Dev nD)

/-- Before the three TensorCore regions an argument is as launched. -/
theorem X1_arg (a : Ref sig .tc) (h1 : (Proc.devRef .tc a : DevRef τ sig) ≠ Proc.devRef .tc main_v1)
    (h0 : W0 m c (Proc.devRef .tc a) = m ((c.tc : Thread nD τ).loc a)) :
    X1 m c (Proc.devRef .tc a) = m ((c.tc : Thread nD τ).loc a) := (after1_of_ne _ _ h1).trans h0

theorem W0_v0_at (b : Fin 8) (i : Fin 512) :
    (W0 m c (Proc.devRef .tc main_v0) : IVec S4096 32) (ix1 ⟨b.val * 512 + i.val, by omega⟩)
      = (m ((c.tc : Thread nD τ).loc main_arg0) : IVec S8x512 32) (ix2 b i) := by
  refine (show _ = shapeCast S4096 (m ((c.tc : Thread nD τ).loc main_arg0) : IVec S8x512 32) shapeCasts_S8x512_S4096 _ from rfl).trans ?_
  pointwise

/-- The gathered rows are the embedding rows of the atomic numbers. -/
theorem emb_eq (hz : ∀ i, ((m ((c.tc : Thread nD τ).loc main_arg0) : IVec S8x512 32) i).toNat < 100) :
    emb (X1 m) c = Ref.emb (m ((c.tc : Thread nD τ).loc main_arg0)) (m ((c.tc : Thread nD τ).loc main_arg6)) hz := by
  funext b i f
  refine (congrFun (after1_v1 (W0 m c)) _).trans ?_
  unfold gathered Ref.emb
  have e : (W0 m c (Proc.devRef .tc main_v0) : IVec S4096 32) (ix1 ⟨b.val * 512 + i.val, by omega⟩) = _ := W0_v0_at m c b i
  have ez : Fin.ofNat 100 ((W0 m c (Proc.devRef .tc main_v0) : IVec S4096 32) (ix1 ⟨b.val * 512 + i.val, by omega⟩)).toNat
      = ⟨((m ((c.tc : Thread nD τ).loc main_arg0) : IVec S8x512 32) (ix2 b i)).toNat, hz _⟩ :=
    Fin.ext ((congrArg (fun v : BitVec 32 => v.toNat % 100) e).trans (Nat.mod_eq_of_lt (hz _)))
  exact congrArg (fun r : Fin 100 => (m ((c.tc : Thread nD τ).loc main_arg6) : FVec Ideal S100x128 .f32) (ix2 r f)) ez

/-- The kernel's result in terms of the arguments: two blocks on the embedding rows. -/
theorem result_eq (hz : ∀ i, ((m ((c.tc : Thread nD τ).loc main_arg0) : IVec S8x512 32) i).toNat < 100)
    (hn : ∀ i, ((m ((c.tc : Thread nD τ).loc main_arg4) : IVec S8x512x64 32) i).toNat < 512) :
    (B3 (X1 m) c (Proc.devRef .tc main_v40) : S8x512x128.Idx → EReal)
      = fun j => Ref.blk (m ((c.tc : Thread nD τ).loc main_arg1)) (m ((c.tc : Thread nD τ).loc main_arg4)) (m ((c.tc : Thread nD τ).loc main_arg7))
          (m ((c.tc : Thread nD τ).loc main_arg9)) (m ((c.tc : Thread nD τ).loc main_arg11)) (m ((c.tc : Thread nD τ).loc main_arg12))
          (m ((c.tc : Thread nD τ).loc main_arg14)) 1 hn
          (Ref.blk (m ((c.tc : Thread nD τ).loc main_arg1)) (m ((c.tc : Thread nD τ).loc main_arg4)) (m ((c.tc : Thread nD τ).loc main_arg7))
            (m ((c.tc : Thread nD τ).loc main_arg9)) (m ((c.tc : Thread nD τ).loc main_arg11)) (m ((c.tc : Thread nD τ).loc main_arg12))
            (m ((c.tc : Thread nD τ).loc main_arg14)) 0 hn
            (Ref.emb (m ((c.tc : Thread nD τ).loc main_arg0)) (m ((c.tc : Thread nD τ).loc main_arg6)) hz)) (j 0) (j 1) (j 2) := by
  rw [B3_v40 (X1 m) c (Ref.nbr (m ((c.tc : Thread nD τ).loc main_arg4)) hn) (fun b i n => by
    rw [X1_arg m c main_arg4 (by decide) rfl]; rfl)]
  unfold x2 x1
  rw [emb_eq m c hz]
  unfold pos w1 w2 wi wo wd
  rw [X1_arg m c main_arg1 (by decide) rfl, X1_arg m c main_arg7 (by decide) rfl, X1_arg m c main_arg9 (by decide) rfl,
    X1_arg m c main_arg11 (by decide) rfl, X1_arg m c main_arg12 (by decide) rfl, X1_arg m c main_arg14 (by decide) rfl]
  rfl

end Ker

open Cert.KernelIdeal in
/-- What `molecule` says of the launch memory's arguments. -/
theorem mol_of (m : (ℓ : Loc nD τ sig) → Buf (Elt Ideal) ℓ) (h : Cert.Pre_KernelIdeal_molecule m) (c : Dev nD) :
    Pre.Mol (m ((c.tc : Thread nD τ).loc main_arg0)) (m ((c.tc : Thread nD τ).loc main_arg2)) (m ((c.tc : Thread nD τ).loc main_arg4))
      (m ((c.tc : Thread nD τ).loc main_arg5)) (m ((c.tc : Thread nD τ).loc main_arg8)) (m ((c.tc : Thread nD τ).loc main_arg10))
      (m ((c.tc : Thread nD τ).loc main_arg13)) (m ((c.tc : Thread nD τ).loc main_arg15)) :=
  Pre.mol _ _ _ _ _ _ _ _ _ _ _ _ _ _ _ _ (h c)

/-- `Cert.quiescent_KernelIdeal_pre_molecule`. -/
theorem frame_pi_molecule : Cert.quiescent_KernelIdeal_pre_molecule := fun m ρ hpre =>
  (θ_run Cert.KernelIdeal.defs _ _).mono (fun r h => ⟨fun c => ⟨h.1 c _ (by decide), h.1 c _ (by decide), h.1 c _ (by decide), h.1 c _ (by decide), h.1 c _ (by decide), h.1 c _ (by decide), h.1 c _ (by decide), h.1 c _ (by decide), h.1 c _ (by decide), h.1 c _ (by decide), h.1 c _ (by decide), h.1 c _ (by decide), h.1 c _ (by decide), h.1 c _ (by decide), h.1 c _ (by decide), h.1 c _ (by decide)⟩, h.2⟩)
    (Ker.frame_of (F := Ideal) m ρ (Ker.preOK_of m fun d => (mol_of m hpre d).z))

/-- `Cert.quiescent_ReferenceIdeal_pre_molecule`. -/
theorem frame_ri_molecule : Cert.quiescent_ReferenceIdeal_pre_molecule := fun m ρ _ => frame_ri m ρ trivial

/-- The kernel's run, its result named. -/
theorem run_kernel (m : (ℓ : Loc Cert.KernelIdeal.nD Cert.KernelIdeal.τ Cert.KernelIdeal.sig) → Buf (Elt Ideal) ℓ) (ρ : Dev Cert.KernelIdeal.nD → PrngReg)
    (hpre : Ker.PreOK (Ker.W0 m)) :
    θ_run (Cert.KernelIdeal.defs (F := Ideal)) (Cert.KernelIdeal.threads (F := Ideal)) ⟨m, fun _ => 0, ρ⟩ (fun r => ∀ c : Dev Cert.KernelIdeal.nD,
      r.2.mem ((c.tc : Thread Cert.KernelIdeal.nD Cert.KernelIdeal.τ).loc Cert.KernelIdeal.main_v40) = Ker.B3 (Ker.X1 m) c (Proc.devRef .tc Cert.KernelIdeal.main_v40)
      ∧ ∀ a ∈ Ker.argRefs, r.2.mem ((c.tc : Thread Cert.KernelIdeal.nD Cert.KernelIdeal.τ).loc a) = m ((c.tc : Thread Cert.KernelIdeal.nD Cert.KernelIdeal.τ).loc a)) :=
  (θ_run Cert.KernelIdeal.defs _ _).mono (fun r h c => ⟨h.1 c (Proc.devRef .tc Cert.KernelIdeal.main_v40) (Ker.mem_uc _ (by decide)), fun a ha =>
      (h.1 c (Proc.devRef .tc a) (Ker.mem_uc a (ListAll.forall_mem_of_all_decide (p := fun a : Ref Cert.KernelIdeal.sig .tc => ¬ (Proc.devRef .tc a : DevRef Cert.KernelIdeal.τ Cert.KernelIdeal.sig).isScoped) (by decide +kernel) a ha))).trans (Ker.final_args m c a ha)⟩)
    (Ker.run_main m ρ hpre)

/-- The kernel's result is the reference's stage at the kernel's arguments. -/
theorem results_eq (m : (ℓ : Loc Cert.KernelIdeal.nD Cert.KernelIdeal.τ Cert.KernelIdeal.sig) → Buf (Elt Ideal) ℓ) (h : Cert.Pre_KernelIdeal_molecule m)
    (m' : (ℓ : Loc Cert.ReferenceIdeal.nD Cert.ReferenceIdeal.τ Cert.ReferenceIdeal.sig) → Buf (Elt Ideal) ℓ) (c : Dev Cert.KernelIdeal.nD)
    (e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.ReferenceIdeal.Read.val_main_v156 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))
      = Ker.B3 (Ker.X1 m) c (Proc.devRef .tc Cert.KernelIdeal.main_v40) := by
  obtain ⟨e0, e1, e2, e3, e4, e5, e6, e7, e8, e9, e10, e11, e12, e13, e14, e15⟩ := e
  have hm := mol_of m h c
  refine Eq.trans ?_ (Ker.result_eq m c hm.z hm.nb).symm
  rw [e0, e1, e2, e3, e4, e5, e6, e7, e8, e9, e10, e11, e12, e13, e14, e15]
  funext j
  conv_lhs => rw [eq_ix3 j]
  exact Ref.v156_at _ _ _ _ _ _ _ _ _ _ _ _ _ _ _ _ hm (j 0) (j 1) (j 2)

/-- `Cert.algebraic_KernelIdeal_ReferenceIdeal_pre_molecule`. -/
theorem algebraic : Cert.algebraic_KernelIdeal_ReferenceIdeal_pre_molecule := fun m g m' g' hpre hargs =>
  ⟨fun c => Ker.B3 (Ker.X1 m) c (Proc.devRef .tc Cert.KernelIdeal.main_v40),
    (θ_run Cert.KernelIdeal.defs _ _).mono (fun r h c => ⟨(h c).1, (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide)⟩)
      (run_kernel m g (Ker.preOK_of m fun d => (mol_of m hpre d).z)),
    (θ_run Cert.ReferenceIdeal.defs _ _).mono (fun r h c => ⟨(h c).1.trans
        ((Cert.ReferenceIdeal.Read.val_main_v156_eq (F := Ideal) (StableHlo.launchContents m' c)).trans (results_eq m hpre m' c (hargs c))), (h c).2⟩)
      (Cert.ReferenceIdeal.Value.run (F := Ideal) m' g')⟩

end Cert.Proof

end
-- ==== Proof.lean ====
module

public import proofs.«01_k».proof.Defs
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_species.Gen.facts,
    Cert.Pre_molecule.Gen.facts, frame_p, frame_pi, frame_pi_molecule, frame_ri, frame_ri_molecule, preserves, algebraic⟩

end Cert.Proof

end
